-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![768, 512]⟩ ⟨2, ![768, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x512 : Shape := ⟨2, ![768, 512]⟩
abbrev S512 : Shape := ⟨1, ![512]⟩
abbrev S4x1x768 : Shape := ⟨3, ![4, 1, 768]⟩
abbrev S_ : Shape := ⟨0, ![]⟩
abbrev S3 : Shape := ⟨1, ![3]⟩
abbrev S4 : Shape := ⟨1, ![4]⟩
abbrev S768 : Shape := ⟨1, ![768]⟩
abbrev S768x1 : Shape := ⟨2, ![768, 1]⟩
abbrev S1x768 : Shape := ⟨2, ![1, 768]⟩
abbrev S1x1x768 : Shape := ⟨3, ![1, 1, 768]⟩
abbrev S1 : Shape := ⟨1, ![1]⟩
abbrev S1x512 : Shape := ⟨2, ![1, 512]⟩

abbrev nBuf : Space → Nat
  | .hbm => 3
  | .vmem => 5
  | .smem => 0
  | _ => 0

abbrev bufTy : (tb : Table) → Fin (tcTables nBuf tb) → BufTy
  | .hbm, ⟨0, _⟩ => ⟨S768x512, .f32⟩
  | .hbm, ⟨1, _⟩ => ⟨S512, .f32⟩
  | .hbm, ⟨2, _⟩ => ⟨S768x512, .f32⟩
  | .local _ .vmem, ⟨0, _⟩ => ⟨S512, .f32⟩
  | .local _ .vmem, ⟨1, _⟩ => ⟨S768x512, .f32⟩
  | .local _ .vmem, ⟨2, _⟩ => ⟨S768x512, .f32⟩
  | .local _ .vmem, ⟨3, _⟩ => ⟨S768x512, .f32⟩
  | .local _ .vmem, ⟨4, _⟩ => ⟨S4x1x768, .f32⟩
  | _, _ => ⟨S768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : Index := Scalar.indexCast v2
  let c0_28 : Index := 0#32
  let c0_29 : Index := 0#32
  ![v48.toNat, 0, 0]
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_41 : BitVec 32 := 0#32
  let c0_i32_42 : BitVec 32 := 0#32
  ![v2.toNat, 0, 0]
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_31 : BitVec 32 := 2#32
  let v52 : BitVec 32 := Scalar.addi v2 c2_i32_31
  let c4_i32_32 : BitVec 32 := 4#32
  let c0_i32_33 : BitVec 32 := 0#32
  let v53 : BitVec 1 := Scalar.cmpi .eq c4_i32_32 c0_i32_33
  let c1_i32_34 : BitVec 32 := 1#32
  let v54 : BitVec 32 := Scalar.select v53 c1_i32_34 c4_i32_32
  let v55 : BitVec 32 := Scalar.remsi v52 v54
  let c0_i32_36 : BitVec 32 := 0#32
  let v57 : BitVec 1 := Scalar.cmpi .slt v55 c0_i32_36
  let c0_i32_37 : BitVec 32 := 0#32
  let v58 : BitVec 1 := Scalar.cmpi .slt v54 c0_i32_37
  let v59 : BitVec 1 := Scalar.xori v57 v58
  let c0_i32_35 : BitVec 32 := 0#32
  let v56 : BitVec 1 := Scalar.cmpi .ne v55 c0_i32_35
  let v60 : BitVec 1 := Scalar.andi v59 v56
  let v61 : BitVec 32 := Scalar.addi v55 v54
  let v62 : BitVec 32 := Scalar.select v60 v61 v55
  let c1_i32_39 : BitVec 32 := 1#32
  let v63 : BitVec 32 := Scalar.muli v62 c1_i32_39
  let v64 : BitVec 32 := Scalar.addi c0_i32_40 v63
  v64.toNat
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_45 : BitVec 32 := 1#32
  let v73 : BitVec 32 := Scalar.addi v2 c1_i32_45
  let c4_i32_46 : BitVec 32 := 4#32
  let c0_i32_47 : BitVec 32 := 0#32
  let v74 : BitVec 1 := Scalar.cmpi .eq c4_i32_46 c0_i32_47
  let c1_i32_48 : BitVec 32 := 1#32
  let v75 : BitVec 32 := Scalar.select v74 c1_i32_48 c4_i32_46
  let v76 : BitVec 32 := Scalar.remsi v73 v75
  let c0_i32_50 : BitVec 32 := 0#32
  let v78 : BitVec 1 := Scalar.cmpi .slt v76 c0_i32_50
  let c0_i32_51 : BitVec 32 := 0#32
  let v79 : BitVec 1 := Scalar.cmpi .slt v75 c0_i32_51
  let v80 : BitVec 1 := Scalar.xori v78 v79
  let c0_i32_49 : BitVec 32 := 0#32
  let v77 : BitVec 1 := Scalar.cmpi .ne v76 c0_i32_49
  let v81 : BitVec 1 := Scalar.andi v80 v77
  let v82 : BitVec 32 := Scalar.addi v76 v75
  let v83 : BitVec 32 := Scalar.select v81 v82 v76
  let c1_i32_53 : BitVec 32 := 1#32
  let v84 : BitVec 32 := Scalar.muli v83 c1_i32_53
  let v85 : BitVec 32 := Scalar.addi c0_i32_54 v84
  v85.toNat
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_59 : BitVec 32 := 3#32
  let v94 : BitVec 32 := Scalar.addi v2 c3_i32_59
  let c4_i32_60 : BitVec 32 := 4#32
  let c0_i32_61 : BitVec 32 := 0#32
  let v95 : BitVec 1 := Scalar.cmpi .eq c4_i32_60 c0_i32_61
  let c1_i32_62 : BitVec 32 := 1#32
  let v96 : BitVec 32 := Scalar.select v95 c1_i32_62 c4_i32_60
  let v97 : BitVec 32 := Scalar.remsi v94 v96
  let c0_i32_64 : BitVec 32 := 0#32
  let v99 : BitVec 1 := Scalar.cmpi .slt v97 c0_i32_64
  let c0_i32_65 : BitVec 32 := 0#32
  let v100 : BitVec 1 := Scalar.cmpi .slt v96 c0_i32_65
  let v101 : BitVec 1 := Scalar.xori v99 v100
  let c0_i32_63 : BitVec 32 := 0#32
  let v98 : BitVec 1 := Scalar.cmpi .ne v97 c0_i32_63
  let v102 : BitVec 1 := Scalar.andi v101 v98
  let v103 : BitVec 32 := Scalar.addi v97 v96
  let v104 : BitVec 32 := Scalar.select v102 v103 v97
  let c1_i32_67 : BitVec 32 := 1#32
  let v105 : BitVec 32 := Scalar.muli v104 c1_i32_67
  let v106 : BitVec 32 := Scalar.addi c0_i32_68 v105
  v106.toNat
def k0_off4 (d0 : Dev nD) (c1_i32_76 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v123 : BitVec 32 := Scalar.addi v2 c1_i32_76
  let c4_i32_77 : BitVec 32 := 4#32
  let c0_i32_78 : BitVec 32 := 0#32
  let v124 : BitVec 1 := Scalar.cmpi .eq c4_i32_77 c0_i32_78
  let c1_i32_79 : BitVec 32 := 1#32
  let v125 : BitVec 32 := Scalar.select v124 c1_i32_79 c4_i32_77
  let v126 : BitVec 32 := Scalar.remsi v123 v125
  let c0_i32_81 : BitVec 32 := 0#32
  let v128 : BitVec 1 := Scalar.cmpi .slt v126 c0_i32_81
  let c0_i32_82 : BitVec 32 := 0#32
  let v129 : BitVec 1 := Scalar.cmpi .slt v125 c0_i32_82
  let v130 : BitVec 1 := Scalar.xori v128 v129
  let c0_i32_80 : BitVec 32 := 0#32
  let v127 : BitVec 1 := Scalar.cmpi .ne v126 c0_i32_80
  let v131 : BitVec 1 := Scalar.andi v130 v127
  let v132 : BitVec 32 := Scalar.addi v126 v125
  let v133 : BitVec 32 := Scalar.select v131 v132 v126
  ![v133.toNat]
def k0_off5 (d0 : Dev nD) (c1_i32_76 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v123 : BitVec 32 := Scalar.addi v2 c1_i32_76
  let c4_i32_77 : BitVec 32 := 4#32
  let c0_i32_78 : BitVec 32 := 0#32
  let v124 : BitVec 1 := Scalar.cmpi .eq c4_i32_77 c0_i32_78
  let c1_i32_79 : BitVec 32 := 1#32
  let v125 : BitVec 32 := Scalar.select v124 c1_i32_79 c4_i32_77
  let v126 : BitVec 32 := Scalar.remsi v123 v125
  let c0_i32_81 : BitVec 32 := 0#32
  let v128 : BitVec 1 := Scalar.cmpi .slt v126 c0_i32_81
  let c0_i32_82 : BitVec 32 := 0#32
  let v129 : BitVec 1 := Scalar.cmpi .slt v125 c0_i32_82
  let v130 : BitVec 1 := Scalar.xori v128 v129
  let c0_i32_80 : BitVec 32 := 0#32
  let v127 : BitVec 1 := Scalar.cmpi .ne v126 c0_i32_80
  let v131 : BitVec 1 := Scalar.andi v130 v127
  let v132 : BitVec 32 := Scalar.addi v126 v125
  let v133 : BitVec 32 := Scalar.select v131 v132 v126
  let c0_i32_86 : BitVec 32 := 0#32
  let c0_i32_87 : BitVec 32 := 0#32
  ![v133.toNat, 0, 0]
abbrev stage0_0 : Fin 1 → Memref sig .tc .vmem S512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S768x2048 : Shape := ⟨2, ![768, 2048]⟩
abbrev S2048 : Shape := ⟨1, ![2048]⟩
abbrev S_ : Shape := ⟨0, ![]⟩
abbrev S768 : Shape := ⟨1, ![768]⟩
abbrev S768x1 : Shape := ⟨2, ![768, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S768x2048, .f32⟩
  | .hbm, ⟨1, _⟩ => ⟨S2048, .f32⟩
  | .hbm, ⟨2, _⟩ => ⟨S768x2048, .f32⟩
  | .hbm, ⟨3, _⟩ => ⟨S_, .f32⟩
  | .hbm, ⟨4, _⟩ => ⟨S768, .f32⟩
  | .hbm, ⟨5, _⟩ => ⟨S768x1, .f32⟩
  | .hbm, ⟨6, _⟩ => ⟨S_, .f32⟩
  | .hbm, ⟨7, _⟩ => ⟨S768x1, .f32⟩
  | .hbm, ⟨8, _⟩ => ⟨S768x1, .f32⟩
  | .hbm, ⟨9, _⟩ => ⟨S_, .f32⟩
  | .hbm, ⟨10, _⟩ => ⟨S768x1, .f32⟩
  | .hbm, ⟨11, _⟩ => ⟨S768x1, .f32⟩
  | .hbm, ⟨12, _⟩ => ⟨S768x1, .f32⟩
  | .hbm, ⟨13, _⟩ => ⟨S1x2048, .f32⟩
  | .hbm, ⟨14, _⟩ => ⟨S768x2048, .f32⟩
  | .hbm, ⟨15, _⟩ => ⟨S768x2048, .f32⟩
  | .hbm, ⟨16, _⟩ => ⟨S768x2048, .f32⟩
  | .hbm, ⟨17, _⟩ => ⟨S768x2048, .f32⟩
  | _, _ => ⟨S768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Rows.lean ====
/-
The exchange buffer of the kernel, four rows of 768 numbers, one per device: where a row lies, which elements it has,
and what reading and writing it does to contents given row by row.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.RmsProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The row of a device -/

theorem row_inb (s : Dev nD) : ∀ a, (![s.val, 0, 0] : Fin 3 → Nat) a + S1x1x768.size a ≤ S4x1x768.size a := by
  revert s; decide

/-- The rectangle of row `s`. -/
abbrev rowRect (s : Dev nD) : Rect S4x1x768 := Rect.unit (s := S4x1x768) ![s.val, 0, 0] S1x1x768.size (row_inb s)

/-- The whole exchange buffer. -/
abbrev commM : Memref sig .tc .vmem S4x1x768 .f32 := Memref.whole cc0_scratch2

/-- Row `s` as the copies name it: the rectangle, its leading axis dropped. -/
abbrev rowM (s : Dev nD) : Memref sig .tc .vmem S1x768 .f32 :=
  (commM.slice (rowRect s) (fun _ => rfl)).squeeze S1x768 squeezes_S1x1x768_S1x768

/-- A row named at an offset that is row `s`'s. -/
theorem rowM_of {off : Fin 3 → Nat} (s : Dev nD) (h : off = ![s.val, 0, 0]) (inb : ∀ a, off a + S1x1x768.size a ≤ S4x1x768.size a) :
    (commM.slice (Rect.unit (s := S4x1x768) off S1x1x768.size inb) (fun _ => rfl)).squeeze S1x768 squeezes_S1x1x768_S1x768 = rowM s := by
  subst h; rfl

/-- The elements of row `s`. -/
def rowI (s : Dev nD) : Finset S4x1x768.Idx := (rowRect s).set

theorem mem_rowI (s : Dev nD) (i : S4x1x768.Idx) : i ∈ rowI s ↔ (i 0).val = s.val := by
  unfold rowI
  rw [Rect.mem_set_unit]
  constructor
  · intro h
    have h0 : s.val ≤ (i 0).val ∧ (i 0).val < s.val + 1 := h 0
    omega
  · intro h a
    have hlt := (i a).isLt
    fin_cases a
    · show s.val ≤ (i 0).val ∧ (i 0).val < s.val + 1
      omega
    · exact ⟨Nat.zero_le _, by simpa using hlt⟩
    · exact ⟨Nat.zero_le _, by simpa using hlt⟩

theorem rowM_set (s : Dev nD) : (rowM s).view.set = rowI s :=
  (View.set_reshape ((View.whole cc0_scratch2).slice (rowRect s)) squeezes_S1x1x768_S1x768.numel_eq).trans
    (View.set_slice_whole cc0_scratch2 (rowRect s))

theorem access_set (s : Dev nD) : (commM.access (rowRect s)).set = rowI s :=
  View.set_slice_whole cc0_scratch2 (rowRect s)

theorem rowI_disjoint {s s' : Dev nD} (h : s ≠ s') : Disjoint (rowI s) (rowI s') :=
  Finset.disjoint_left.mpr fun i hi hi' => h (Fin.ext (((mem_rowI s i).mp hi).symm.trans ((mem_rowI s' i).mp hi')))

theorem rowI_cover : (Finset.univ : Finset (Dev nD)).biUnion rowI = Finset.univ := by
  ext i
  simp only [Finset.mem_biUnion, Finset.mem_univ, true_and, iff_true]
  exact ⟨⟨(i 0).val, (i 0).isLt⟩, (mem_rowI _ i).mpr rfl⟩

/-! ## Contents given row by row -/

/-- The place of an element within its row. -/
def low (i : S4x1x768.Idx) : S1x1x768.Idx := fun a =>
  ⟨if a.val = 0 then 0 else (i a).val, by
    have h := (i a).isLt
    fin_cases a
    · exact Nat.one_pos
    · exact h
    · exact h⟩

/-- The buffer whose row `s` is `p s`. -/
def rowsOf (p : Dev nD → Vec F S1x1x768 .f32) : (cc0_scratch2 : Ref sig .tc).ty.Contents (Elt F) :=
  fun i => p ⟨(i 0).val, (i 0).isLt⟩ (low i)

theorem low_emb (s : Dev nD) (x : S1x1x768.Idx) : low ((rowRect s).emb x) = x := by
  funext a
  refine Fin.ext ?_
  have h := ValueKit.rect_emb_unit_val (s := S4x1x768) ![s.val, 0, 0] S1x1x768.size (row_inb s) x a
  have hx := (x a).isLt
  fin_cases a
  · exact (Nat.lt_one_iff.mp hx).symm
  · exact h.trans (Nat.zero_add _)
  · exact h.trans (Nat.zero_add _)

theorem rowsOf_emb (p : Dev nD → Vec F S1x1x768 .f32) (s : Dev nD) (x : S1x1x768.Idx) :
    rowsOf p ((rowRect s).emb x) = p s x := by
  unfold rowsOf
  rw [low_emb]
  refine congrArg (fun d => p d x) (Fin.ext ?_)
  have h := ValueKit.rect_emb_unit_val (s := S4x1x768) ![s.val, 0, 0] S1x1x768.size (row_inb s) x 0
  have hx : (x 0).val < 1 := (x 0).isLt
  refine h.trans ?_
  show s.val + (x 0).val = s.val
  omega

/-- A load of row `s` reads what the row holds. -/
theorem readAt_row (p : Dev nD → Vec F S1x1x768 .f32) (s : Dev nD) :
    commM.view.readAt (Elt F) (rowRect s).toLoadRect (rowsOf p) = p s :=
  funext fun x => rowsOf_emb p s x

/-- A store of `p s` over row `s` leaves that row as in `rowsOf p`. -/
theorem store_row (p : Dev nD → Vec F S1x1x768 .f32) (s : Dev nD) (f : (cc0_scratch2 : Ref sig .tc).ty.Contents (Elt F)) :
    ∀ i ∈ rowI s, (commM.access (rowRect s)).write (Elt F) f (p s) Finset.univ i = rowsOf p i := by
  intro i hi
  rw [← access_set] at hi
  obtain ⟨x, -, rfl⟩ := Finset.mem_map.mp hi
  rw [View.write_emb_of_mem _ _ (Finset.mem_univ x)]
  exact (rowsOf_emb p s x).symm

/-- A copy of row `s` from contents `g` into contents `f` leaves that row as in `g`. -/
theorem copy_row (s : Dev nD) (f g : (cc0_scratch2 : Ref sig .tc).ty.Contents (Elt F)) :
    ∀ i ∈ rowI s, (rowM s).view.write (Elt F) f ((rowM s).view.read (Elt F) g) Finset.univ i = g i := by
  intro i hi
  rw [View.write_read_eq_piecewise, View.setOn_univ, rowM_set]
  exact Finset.piecewise_eq_of_mem _ _ _ hi

end Cert.RmsProof
-- ==== Proof.Proto.lean ====
/-
The protocol of the kernel: its semaphores, what each arrival on them hands over, what every device owes at the start,
and the order in which waits may stand.

Device `c` has nine semaphores in play. Its barrier cell is signalled once by each of the other three devices; the
signal of device `d` hands over row `c` of `d`'s exchange buffer, into which `c` will copy. Its input cell completes
the copy of its block of `x` out of HBM. Its three send cells complete the three copies of its own row, each returning
the share of the row that copy reads. Its receive cell `s` completes the copy of device `s`'s row into row `s`; the
receive cell of its own index is never used.
-/
module

public import proofs.«01_k».proof.Proof.Rows

@[expose] public section

noncomputable section

namespace Cert.RmsProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: one copy for the staging, one for the exchange, whose duties are named by the device paying -/

abbrev UX : Type := URounds (GSem nD τ sig) (Dev nD)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-! ## The other devices -/

set_option backward.proofsInPublic true in
/-- The device `j + 1` places after `c`. -/
def peer (c : Dev nD) (j : Fin 3) : Dev nD := ⟨(c.val + (j.val + 1)) % 4, Nat.mod_lt _ (by decide)⟩

theorem peer_ne (c : Dev nD) (j : Fin 3) : peer c j ≠ c := by revert c j; decide
theorem peers_all (c : Dev nD) : (Finset.univ : Finset (Dev nD)) = [c, peer c 0, peer c 1, peer c 2].toFinset := by revert c; decide
theorem peers_nodup (c : Dev nD) : [c, peer c 0, peer c 1, peer c 2].Nodup := by revert c; decide
theorem peer_inj (c : Dev nD) : Function.Injective (peer c) := by revert c; decide

/-! ## The semaphores -/

/-- The kernel's own semaphores: the input's, a send's, a receive's. -/
abbrev OSem : Type := Option (Fin 3 ⊕ Dev nD)
/-- The barrier's or one of its own. -/
abbrev Role : Type := Option OSem

abbrev barR : Role := none
abbrev inR : Role := some none
abbrev sendR (j : Fin 3) : Role := some (some (.inl j))
abbrev recvR (s : Dev nD) : Role := some (some (.inr s))

abbrev barS : Sem sig := (SemArray.scalar (sig.barrier 0 rfl) : Sems sig S_).sem
abbrev inS : DmaSem sig := (2 : Fin 10)
set_option backward.proofsInPublic true in
abbrev sendS (j : Fin 3) : DmaSem sig := (⟨3 + j.val, by omega⟩ : Fin 10)
set_option backward.proofsInPublic true in
abbrev recvS (s : Dev nD) : DmaSem sig := (⟨6 + s.val, Nat.add_lt_add_left s.isLt 6⟩ : Fin 10)

def osem : OSem → SemLoc sig
  | none => .dma inS
  | some (.inl j) => .dma (sendS j)
  | some (.inr s) => .dma (recvS s)

def csem : Role → SemLoc sig
  | none => .reg barS
  | some o => osem o

set_option backward.proofsInPublic true in
/-- Which role a semaphore has, if any. -/
def roleOf : SemLoc sig → Option Role
  | .reg _ => some barR
  | .dma q =>
    if q.val < 2 then none
    else if q.val = 2 then some inR
    else if h : q.val < 6 then some (sendR ⟨q.val - 3, by omega⟩)
    else some (recvR ⟨q.val - 6, by have h10 : q.val < 10 := q.isLt; show q.val - 6 < 4; omega⟩)

theorem roleOf_csem (k : Role) : roleOf (csem k) = some k := by revert k; decide
theorem csem_inj : Function.Injective csem := fun a b h =>
  Option.some.inj ((roleOf_csem a).symm.trans ((congrArg roleOf h).trans (roleOf_csem b)))

abbrev cell (c : Dev nD) (k : Role) : GSem nD τ sig := ((c : Thread nD τ), csem k)

theorem cell_inj {c c' : Dev nD} {k k' : Role} (h : cell c k = cell c' k') : c = c' ∧ k = k' :=
  ⟨congrArg (fun g : GSem nD τ sig => g.1.1) h, csem_inj (congrArg Prod.snd h)⟩

/-! ## Amounts -/

/-- What the copy of a row credits, -/
def N : ℕ := (rowM (0 : Fin 4)).view.dmaCredit
/-- and what the copy of the block of `x` does. -/
def NX : ℕ := (Memref.whole cc0_scratch0 : Memref sig .tc .vmem S768x512 .f32).view.dmaCredit

theorem credit_row (s : Dev nD) : (rowM s).view.dmaCredit = N := rfl
theorem N_pos : 0 < N := View.dmaCredit_pos _ (by decide)
theorem NX_pos : 0 < NX := View.dmaCredit_pos _ (by decide)

/-! ## Contents -/

/-- Device `c`'s block of `x`, -/
def xin (c : Dev nD) : Vec F S768x512 .f32 := m ((c : Thread nD τ).loc main_arg0)
/-- the sums of squares of its rows, -/
def part (c : Dev nD) : Vec F S1x1x768 .f32 := k0_pay2 (xin m c)
/-- and the exchange buffer holding every device's. -/
def parts : (cc0_scratch2 : Ref sig .tc).ty.Contents (Elt F) := rowsOf (part m)

/-! ## What is handed over -/

/-- A share of row `s` of device `c`'s exchange buffer. -/
def rowPts (c s : Dev nD) (q : PosShare TreeShare) (f : (cc0_scratch2 : Ref sig .tc).ty.Contents (Elt F)) : sProp 𝕄 :=
  ((c : Thread nD τ).loc cc0_scratch2) ↦[rowI s]{q} f

/-- The share of its own row each of the three copies reads. -/
def shr : Fin 3 → PosShare TreeShare
  | 0 => fullShare.left
  | 1 => fullShare.right.left
  | 2 => fullShare.right.right

def xPts (c : Dev nD) : sProp 𝕄 := ((c : Thread nD τ).loc main_arg0) ↦{fullShare} (xin m c : Buf (Elt F) ((c : Thread nD τ).loc main_arg0))
def xvPts (c : Dev nD) : sProp 𝕄 := ((c : Thread nD τ).loc cc0_scratch0) ↦{fullShare} (xin m c : Buf (Elt F) ((c : Thread nD τ).loc cc0_scratch0))

instance rowPts_storable (c s : Dev nD) (q) (f) : BI.Storable (upEmb : UEmb _ 𝕄) (rowPts (F := F) c s q f) := by unfold rowPts; infer_instance
instance xPts_storable (c : Dev nD) : BI.Storable (upEmb : UEmb _ 𝕄) (xPts (F := F) m c) := by unfold xPts; infer_instance
instance xvPts_storable (c : Dev nD) : BI.Storable (upEmb : UEmb _ 𝕄) (xvPts (F := F) m c) := by unfold xvPts; infer_instance

theorem rowPts_congr (c s : Dev nD) (q : PosShare TreeShare) {f g : (cc0_scratch2 : Ref sig .tc).ty.Contents (Elt F)}
    (h : ∀ i ∈ rowI s, f i = g i) : rowPts c s q f = rowPts c s q g := pointsTo_congr h

/-- A row held in full is its three shares. -/
theorem rowPts_shares (c s : Dev nD) (f : (cc0_scratch2 : Ref sig .tc).ty.Contents (Elt F)) :
    rowPts c s fullShare f ⊣⊢ iprop(rowPts c s (shr 0) f ∗ rowPts c s (shr 1) f ∗ rowPts c s (shr 2) f) := by
  unfold rowPts shr
  have h1 := pointsTo_share (ℓ := (c : Thread nD τ).loc cc0_scratch2) (I := rowI s) (f := f) (Val := Elt F) (Ix := Unit) (Name := ℕ) (U := UU) (Lvl := ℕ)
    (PosShare.mem_left_op_right fullShare)
  have h2 := pointsTo_share (ℓ := (c : Thread nD τ).loc cc0_scratch2) (I := rowI s) (f := f) (Val := Elt F) (Ix := Unit) (Name := ℕ) (U := UU) (Lvl := ℕ)
    (PosShare.mem_left_op_right fullShare.right)
  constructor
  · iintro H
    ihave H' := h1.1 $$ H
    icases H' with ⟨Hl, Hr⟩
    ihave H'' := h2.1 $$ Hr
    icases H'' with ⟨Hrl, Hrr⟩
    isplitl [Hl]; · iexact Hl
    isplitl [Hrl] <;> iassumption
  · iintro ⟨Hl, Hrl, Hrr⟩
    iapply h1.2
    isplitl [Hl]; · iexact Hl
    iapply h2.2
    isplitl [Hrl] <;> iassumption

/-- The exchange buffer is its four rows. -/
theorem comm_rows (c : Dev nD) (f : (cc0_scratch2 : Ref sig .tc).ty.Contents (Elt F)) :
    ((((c : Thread nD τ).loc cc0_scratch2) ↦{fullShare} f) : sProp 𝕄)
      = iprop(rowPts c c fullShare f ∗ rowPts c (peer c 0) fullShare f ∗ rowPts c (peer c 1) fullShare f ∗ rowPts c (peer c 2) fullShare f) := by
  have h : ((((c : Thread nD τ).loc cc0_scratch2) ↦[(Finset.univ : Finset (Dev nD)).biUnion rowI]{fullShare} f) : sProp 𝕄)
      = bigSep Finset.univ fun s => rowPts c s fullShare f :=
    pointsTo_biUnion _ _ fun t _ t' _ hne => rowI_disjoint hne
  rw [rowI_cover] at h
  refine h.trans ?_
  exact bigSep_univ_eq_bigSepL [c, peer c 0, peer c 1, peer c 2] (peers_all c) (peers_nodup c) _

/-! ## The schedule -/

/-- The devices paying at a cell of device `c`. -/
def dutiesOf (c : Dev nD) : Option Role → Finset (Dev nD)
  | none => ∅
  | some none => Finset.univ.erase c
  | some (some none) => {c}
  | some (some (some (.inl _))) => {c}
  | some (some (some (.inr s))) => Finset.univ.filter fun d => d = s ∧ s ≠ c

def amountOf : Option Role → ℕ
  | some none => 1
  | some (some none) => NX
  | _ => N

/-- What the payment of device `d` hands over at a cell of device `c`. -/
def payOf (c d : Dev nD) : Option Role → sProp 𝕄
  | none => iprop(emp)
  | some none => iprop(∃ f, rowPts d c fullShare f)
  | some (some none) => iprop(xvPts m c ∗ xPts m c)
  | some (some (some (.inl j))) => rowPts c c (shr j) (parts m)
  | some (some (some (.inr s))) => rowPts c s fullShare (parts m)

instance payOf_storable (c d : Dev nD) (k : Option Role) : BI.Storable (upEmb : UEmb _ 𝕄) (payOf (F := F) m c d k) := by
  rcases k with _ | _ | _ | _ | _ <;> (dsimp only [payOf]; infer_instance)

/-- One round, round 0. -/
def xRd : Rounds.Schedule (GSem nD τ sig) (Dev nD) 𝕄 where
  duties g r := if r = 0 ∧ g.1.2 = .tc then dutiesOf g.1.1 (roleOf g.2) else ∅
  unitless _ := False
  amount g _ _ := amountOf (roleOf g.2)
  payload g _ d := payOf m g.1.1 d (roleOf g.2)
  amount_pos g _ _ _ := by
    rcases roleOf g.2 with _ | _ | _ | _ | _
    · exact N_pos
    · exact Nat.one_pos
    · exact NX_pos
    · exact N_pos
    · exact N_pos

instance xRd_payload_storable (g : GSem nD τ sig) (r : ℕ) (d : Dev nD) :
    BI.Storable (upEmb : UEmb _ 𝕄) ((xRd (F := F) m).payload g r d) := payOf_storable m g.1.1 d (roleOf g.2)

theorem duties_eq (c : Dev nD) (k : Role) : (xRd (F := F) m).duties (cell c k) 0 = dutiesOf c (some k) := by
  dsimp only [xRd]; rw [if_pos ⟨rfl, rfl⟩, roleOf_csem]
theorem amount_eq (c : Dev nD) (k : Role) (d : Dev nD) : (xRd (F := F) m).amount (cell c k) 0 d = amountOf (some k) := by
  dsimp only [xRd]; rw [roleOf_csem]
theorem payload_eq (c : Dev nD) (k : Role) (d : Dev nD) : (xRd (F := F) m).payload (cell c k) 0 d = payOf m c d (some k) := by
  dsimp only [xRd]; rw [roleOf_csem]
theorem duties_later (g : GSem nD τ sig) : ∀ r, 1 ≤ r → (xRd (F := F) m).duties g r = ∅ :=
  fun r hr => by dsimp only [xRd]; rw [if_neg fun h => by omega]
theorem duties_own (c : Dev nD) : ∀ r, 0 ≤ r → (xRd (F := F) m).duties (cell c (recvR c)) r = ∅ := fun r _ => by
  rcases r with _ | r
  · rw [duties_eq]; exact Finset.filter_false_of_mem fun d _ h => h.2 rfl
  · exact duties_later m _ _ (by omega)

theorem duties_bar (c : Dev nD) : dutiesOf c (some barR) = {peer c 0, peer c 1, peer c 2} := by revert c; decide
theorem duties_recv {c s : Dev nD} (h : s ≠ c) : dutiesOf c (some (recvR s)) = {s} := by
  show Finset.univ.filter (fun d => d = s ∧ s ≠ c) = {s}
  ext d; simp [h]
theorem mem_duties_bar (c : Dev nD) (j : Fin 3) : c ∈ dutiesOf (peer c j) (some barR) := by revert c j; decide

/-- What a cell expects in its one round: the duties' number by the amount of one. -/
theorem expect_eq (c : Dev nD) (k : Role) : (xRd (F := F) m).expect (cell c k) 0 = (dutiesOf c (some k)).card * amountOf (some k) := by
  unfold Schedule.expect Schedule.amountOf
  rw [Finset.sum_congr rfl fun d _ => amount_eq m c k d, Finset.sum_const, duties_eq, smul_eq_mul]

theorem rest_eq (c : Dev nD) (k : Role) :
    bigSep ((xRd (F := F) m).duties (cell c k) 0 \ ∅) (fun d => (xRd (F := F) m).payload (cell c k) 0 d)
      = bigSep (dutiesOf c (some k)) fun d => payOf m c d (some k) := by
  rw [Finset.sdiff_empty, duties_eq]
  exact bigSep_congr fun d _ => payload_eq m c k d

/-! ## Debts and levels -/

abbrev owR (c : Dev nD) (j : Fin 3) : CellTallies nD τ sig Unit := tallyAt (cell (peer c j) (recvR c)) () N
abbrev owB (c : Dev nD) (j : Fin 3) : CellTallies nD τ sig Unit := tallyAt (cell (peer c j) barR) () 1

/-- The copies `c` still owes once it has signalled. -/
def OR (c : Dev nD) : CellTallies nD τ sig Unit := (owR c 2 + owR c 0) + owR c 1
/-- All it owes at the start. -/
def O₀ (c : Dev nD) : CellTallies nD τ sig Unit := ((OR c + owB c 2) + owB c 1) + owB c 0

def L (g : GSem nD τ sig) : Finset Unit := if g.1.2 = .tc then {()} else ∅
def lvOf : Option Role → ℕ
  | some none => 1
  | some (some (some (.inr _))) => 2
  | _ => 0
def lv (g : GSem nD τ sig) (_ : Unit) : ℕ := lvOf (roleOf g.2)

theorem L_of_ne (g : GSem nD τ sig) (h : g.1.2 ≠ .tc) : L g = ∅ := if_neg h
theorem L_tc (c : Dev nD) (sm : SemLoc sig) : L ((c : Thread nD τ), sm) = {()} := if_pos rfl

theorem tally_pos {g' g : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

theorem OR_pos {c : Dev nD} {g : GSem nD τ sig} {u : Unit} (h : 0 < OR c g u) : ∃ j, g = cell (peer c j) (recvR c) := by
  unfold OR at h
  rw [Pi.add_apply, Finsupp.add_apply, Pi.add_apply, Finsupp.add_apply] at h
  rcases Nat.eq_zero_or_pos (owR c 2 g u) with h2 | h2
  · rcases Nat.eq_zero_or_pos (owR c 0 g u) with h0 | h0
    · rw [h2, h0] at h
      exact ⟨1, tally_pos (show 0 < owR c 1 g u by simpa using h)⟩
    · exact ⟨0, tally_pos h0⟩
  · exact ⟨2, tally_pos h2⟩

theorem O₀_pos {c : Dev nD} {g : GSem nD τ sig} {u : Unit} (h : 0 < O₀ c g u) :
    ∃ j, g = cell (peer c j) (recvR c) ∨ g = cell (peer c j) barR := by
  unfold O₀ at h
  rw [Pi.add_apply, Finsupp.add_apply, Pi.add_apply, Finsupp.add_apply, Pi.add_apply, Finsupp.add_apply] at h
  rcases Nat.eq_zero_or_pos (OR c g u) with hr | hr
  · rcases Nat.eq_zero_or_pos (owB c 2 g u) with h2 | h2
    · rcases Nat.eq_zero_or_pos (owB c 1 g u) with h1 | h1
      · rw [hr, h2, h1] at h
        exact ⟨0, .inr (tally_pos (show 0 < owB c 0 g u by simpa using h))⟩
      · exact ⟨1, .inr (tally_pos h1)⟩
    · exact ⟨2, .inr (tally_pos h2)⟩
  · exact (OR_pos hr).imp fun j hj => .inl hj

/-- A wait on a staging or input cell may stand whatever of its debts a device still has. -/
theorem mayWait_low (c : Dev nD) (sm : SemLoc sig) (hs : lvOf (roleOf sm) = 0) (O : CellTallies nD τ sig Unit)
    (hO : ∀ g u, 0 < O g u → ∃ (d : Dev nD) (k : Role), g = cell d k ∧ 0 < lvOf (some k)) :
    (levAts L lv : sProp 𝕄) ⊢ MayWait (c : Thread nD τ) sm () O :=
  MayOwe.of_cut (L := L) (lev := lv) 0 (fun p hp => by rw [Finset.mem_singleton.mp hp, L_tc]; exact Finset.mem_singleton_self _)
    (fun g u hg => by obtain ⟨d, k, rfl, -⟩ := hO g u hg; exact Finset.mem_singleton_self _)
    (fun p hp => by rw [Finset.mem_singleton.mp hp]; exact hs.le)
    (fun g u hg => by obtain ⟨d, k, rfl, hk⟩ := hO g u hg; unfold lv; rw [roleOf_csem]; exact hk)

/-- A wait on the barrier may stand while only copies are owed. -/
theorem mayWait_bar (c : Dev nD) : (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨j, rfl⟩ := OR_pos hg; exact Finset.mem_singleton_self _)
    (fun p hp => by rw [Finset.mem_singleton.mp hp]; exact le_rfl)
    (fun g u hg => by obtain ⟨j, rfl⟩ := OR_pos hg; unfold lv; rw [roleOf_csem]; exact Nat.lt_succ_self 1)

theorem OR_above (c : Dev nD) : ∀ g u, 0 < OR c g u → ∃ (d : Dev nD) (k : Role), g = cell d k ∧ 0 < lvOf (some k) := fun g u h => by
  obtain ⟨j, rfl⟩ := OR_pos h; exact ⟨_, _, rfl, Nat.succ_pos 1⟩
theorem O₀_above (c : Dev nD) : ∀ g u, 0 < O₀ c g u → ∃ (d : Dev nD) (k : Role), g = cell d k ∧ 0 < lvOf (some k) := fun g u h => by
  obtain ⟨j, rfl | rfl⟩ := O₀_pos h
  · exact ⟨_, _, rfl, Nat.succ_pos 1⟩
  · exact ⟨_, _, rfl, Nat.one_pos⟩

end Cert.RmsProof
-- ==== Proof.Steps.lean ====
/-
The steps of the protocol: a signal to another device's barrier, a copy of the own row to another device, and a wait
that takes what a cell hands over and closes it. Each is one rule, stated once for every device and every copy.
-/
module

public import proofs.«01_k».proof.Proof.Proto

@[expose] public section

noncomputable section

namespace Cert.RmsProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The names the program computes -/

theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 1 := by revert c; decide +kernel
theorem dev5_eq (c : Dev nD) : (⟨k0_dev5 c, k0_dev5_lt c⟩ : Dev nD) = peer c 0 := by revert c; decide +kernel
theorem dev6_eq (c : Dev nD) : (⟨k0_dev6 c, k0_dev6_lt c⟩ : Dev nD) = peer c 2 := by revert c; decide +kernel

theorem off4_eq (c : Dev nD) (j : Fin 3) : k0_off4 c (BitVec.ofNat 32 (1 + j.val)) = ![(peer c j).val] := by
  revert c j; decide +kernel
theorem off5_eq (c : Dev nD) (j : Fin 3) : k0_off5 c (BitVec.ofNat 32 (1 + j.val)) = ![(peer c j).val, 0, 0] := by
  revert c j; decide +kernel

/-- Element `s` of the receive semaphores. -/
theorem recvS_inb (s : Dev nD) : ∀ a, (![s.val] : Fin 1 → Nat) a + S1.size a ≤ S4.size a := by revert s; decide
theorem recvS_at : ∀ s : Dev nD,
    ((cc0_scratch5.slice (Rect.unit (s := S4) ![s.val] S1.size (recvS_inb s))).squeeze S_ squeezes_S1_S_ : DmaSems sig S_).sem = recvS s := by
  decide +kernel
theorem recvS_of {off : Fin 1 → Nat} (s : Dev nD) (h : off = ![s.val]) (inb : ∀ a, off a + S1.size a ≤ S4.size a) :
    ((cc0_scratch5.slice (Rect.unit (s := S4) off S1.size inb)).squeeze S_ squeezes_S1_S_ : DmaSems sig S_).sem = recvS s := by
  subst h; exact recvS_at s

/-! ## What every device knows of every cell -/

/-- The invariants of all the cells, under the names `K`, and that round 0 of each is reached. -/
def records (K : Dev nD × Role → ℕ) : sProp 𝕄 :=
  iprop((bigSep Finset.univ fun p : Dev nD × Role => cellInv EX (xRd m) (K p) (cell p.1 p.2))
    ∗ bigSep Finset.univ fun p : Dev nD × Role => reached EX (cell p.1 p.2) 0)

instance records_persistent (K : Dev nD × Role → ℕ) : BI.Persistent (records m K) := by unfold records; infer_instance

theorem records_inv (K : Dev nD × Role → ℕ) (c : Dev nD) (k : Role) :
    records m K ⊢ cellInv EX (xRd m) (K (c, k)) (cell c k) := by
  unfold records
  have h : (bigSep Finset.univ fun p : Dev nD × Role => (cellInv EX (xRd m) (K p) (cell p.1 p.2) : sProp 𝕄)) ⊢ cellInv EX (xRd m) (K (c, k)) (cell c k) :=
    bigSep_elim (Finset.mem_univ (c, k))
  iintro ⟨H, -⟩
  iapply h
  iexact H
theorem records_reached (K : Dev nD × Role → ℕ) (c : Dev nD) (k : Role) :
    records m K ⊢ reached EX (cell c k) 0 := by
  unfold records
  have h : (bigSep Finset.univ fun p : Dev nD × Role => (reached EX (cell p.1 p.2) 0 : sProp 𝕄)) ⊢ reached EX (cell c k) 0 :=
    bigSep_elim (Finset.mem_univ (c, k))
  iintro ⟨-, H⟩
  iapply h
  iexact H

abbrev 𝒱₀ : Variants := Variants.none

variable (K : Dev nD × Role → ℕ)
/-- The signal to the device `j + 1` places on hands it the row of `c`'s buffer it will copy into. -/
theorem wp_ready {α : Type} {Q : α → sProp 𝕄} {k : PUnit → Prog (TpuEff nD τ sig (Elt F) Λ₀ .tc) α}
    (c : Dev nD) (j : Fin 3) {n : Dev nD} (hn : n = peer c j) {b : ℤ} (hb : b = ((1 : ℕ) : ℤ))
    (f : (cc0_scratch2 : Ref sig .tc).ty.Contents (Elt F)) (O : CellTallies nD τ sig Unit) (W : Waits sig Unit) :
    iprop(records m K ∗ owes (c : Thread nD τ) (O + owB c j) W ∗ dutyTok EX (cell (peer c j) barR) 0 c ∗ rowPts c (peer c j) fullShare f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS b) k) Q) := by
  subst hn hb
  iintro ⟨#HR, HO, Ht, Hrow⟩
  iapply (Rounds.wp_signal 𝒱₀ EX (xRd m) (c : Thread nD τ) none (dst := (peer c j : Thread nD τ)) (κ := K (peer c j, barR))
    (r := 0) (d := c) (show c ∈ (xRd m).duties (cell (peer c j) barR) 0 from by rw [duties_eq]; exact mem_duties_bar c j) (amount_eq m (peer c j) barR c) () O rfl)
  isplitr; · iapply (records_inv m K (peer c j) barR); iexact HR
  isplitl [HO]; · iexact HO
  isplitl [Ht]; · iexact Ht
  isplitl [Hrow]
  · have h : (iprop(∃ f, rowPts c (peer c j) fullShare f) : sProp 𝕄) ⊢ (xRd m).payload ((peer c j : Thread nD τ), .reg barS) 0 c :=
      Entails.of_eq (payload_eq m (peer c j) barR c).symm
    iapply h
    iexists f; iexact Hrow
  iapply (records_reached m K (peer c j) barR); iexact HR

omit [FloatOps F] in
theorem rowPts_view (c s : Dev nD) (q : PosShare TreeShare) (f : (cc0_scratch2 : Ref sig .tc).ty.Contents (Elt F)) :
    (rowPts c s q f : sProp 𝕄) = ((rowM s).view.loc (c : Thread nD τ) ↦[(rowM s).view.set]{q} f) := by
  rw [rowM_set]; rfl

/-- The copy of the own row to the device `j + 1` places on. -/
theorem wp_push {α : Type} {Q : α → sProp 𝕄} {k : PUnit → Prog (TpuEff nD τ sig (Elt F) Λ₀ .tc) α}
    (c : Dev nD) (j : Fin 3) {n : Dev nD} (hn : n = peer c j) {src dst : Memref sig .tc .vmem S1x768 .f32}
    (hs : src = rowM c) (hd : dst = rowM c) {sS sem : DmaSem sig} (hsS : sS = sendS j) (hsem : sem = recvS c)
    {hsc : (dst : Memref sig (Dev.tc n : Thread nD τ).2.kind .vmem S1x768 .f32).view.ref.isScScratch = false}
    {hsrc : src.view.WordExact} {hdst : (dst : Memref sig (Dev.tc n : Thread nD τ).2.kind .vmem S1x768 .f32).view.WordExact}
    {hty : DmaTarget.Typed .vmem (.dma sem) (.remote (Dev.tc n : Thread nD τ) (dst : Memref sig (Dev.tc n : Thread nD τ).2.kind .vmem S1x768 .f32) (.dma sS) hsc)}
    (fn : (cc0_scratch2 : Ref sig .tc).ty.Contents (Elt F)) (O : CellTallies nD τ sig Unit) (W : Waits sig Unit) :
    iprop(records m K ∗ rowPts c c (shr j) (parts m) ∗ rowPts (peer c j) c fullShare fn
        ∗ owes (c : Thread nD τ) (O + owR c j) W
        ∗ dutyTok EX (cell c (sendR j)) 0 c ∗ dutyTok EX (cell (peer c j) (recvR c)) 0 c)
      ⊢ iprop(((cred (tallyAt (cell c (sendR j)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sem) hsrc hdst hty) k) Q) := by
  subst hn hs hd hsS hsem
  iintro ⟨#HR, Hrow, Hdst, HO, HtS, HtV⟩
  iapply (Rounds.wp_send_pointsTo 𝒱₀ EX (xRd m) (c : Thread nD τ) none (κ₁ := K (c, sendR j)) (κ₂ := K (peer c j, recvR c))
    (r₁ := 0) (r₂ := 0) (d₁ := c) (d₂ := c) (q := shr j) (fs := parts m) (fd := fn)
    (show c ∈ (xRd m).duties (cell c (sendR j)) 0 from by rw [duties_eq]; exact Finset.mem_singleton_self _)
    (show c ∈ (xRd m).duties (cell (peer c j) (recvR c)) 0 from by rw [duties_eq, duties_recv (peer_ne c j).symm]; exact Finset.mem_singleton_self _)
    () () N (credit_row c) (amount_eq m c (sendR j) c) (amount_eq m (peer c j) (recvR c) c) O rfl (W := W)
    (by
      rw [rowM_set]
      exact Entails.of_eq (payload_eq m c (sendR j) c).symm)
    (by
      rw [rowM_set]
      exact Entails.of_eq ((rowPts_congr (peer c j) c fullShare (copy_row c fn (parts m))).trans (payload_eq m (peer c j) (recvR c) c).symm)))
  isplitr; · iapply (records_inv m K c (sendR j)); iexact HR
  isplitr; · iapply (records_inv m K (peer c j) (recvR c)); iexact HR
  isplitl [Hrow]; · iapply (Entails.of_eq (rowPts_view c c (shr j) (parts m))); iexact Hrow
  isplitl [Hdst]; · iapply (Entails.of_eq (rowPts_view (peer c j) c fullShare fn)); iexact Hdst
  isplitl [HO]; · iexact HO
  isplitl [HtS]; · iexact HtS
  isplitr; · iapply (records_reached m K c (sendR j)); iexact HR
  isplitl [HtV]; · iexact HtV
  iapply (records_reached m K (peer c j) (recvR c)); iexact HR

/-- A wait for all a cell expects takes what is handed over and closes the cell: its counter, at zero, is the device's again. -/
theorem wp_take {α : Type} {Q : α → sProp 𝕄} {k : PUnit → Prog (TpuEff nD τ sig (Elt F) Λ₀ .tc) α}
    (c : Dev nD) (ro : Role) {w : TpuEff nD τ sig (Elt F) Λ₀ .tc PUnit} {n : ℕ}
    (hw : ∀ Kt : PUnit → sProp 𝕄, wpE (defs₀ (F := F)) 𝒱₀ (c : Thread nD τ) none Set.univ w Kt = waitSpec (c : Thread nD τ) Set.univ (csem ro) n Kt)
    (hn : n = (dutiesOf c (some ro)).card * amountOf (some ro)) (O : CellTallies nD τ sig Unit) (W : Waits sig Unit) :
    iprop(records m K ∗ cred (tallyAt (cell c ro) () n) ∗ owes (c : Thread nD τ) O W ∗ MayWait (c : Thread nD τ) (csem ro) () O
        ∗ atPos EX (cell c ro) 0 ∅ 0)
      ⊢ iprop(((owes (c : Thread nD τ) O (insert (csem ro, ()) W) ∗ semVal (cell c ro) 0
              ∗ bigSep (dutiesOf c (some ro)) fun d => payOf m c d (some ro))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#HR, Hc, HO, HM, Hat⟩ Hk
  iapply (Rounds.wp_wait_rest_token 𝒱₀ EX (xRd m) (c : Thread nD τ) none (κ := K (c, ro)) hw (Set.mem_univ _) () (O := O) (W := W)
    (R := 0) (m := 0) (T := ∅) (by rw [Nat.zero_add, expect_eq, hn])) $$ [Hc HO HM Hat]
  · isplitr; · iapply (records_inv m K c ro); iexact HR
    isplitl [Hc]; · iexact Hc
    isplitl [HO]; · iexact HO
    isplitl [HM]; · iexact HM
    iexact Hat
  iintro ⟨HO, Hat, -, Hpay⟩
  imod (Rounds.cell_close EX (xRd m) (Set.mem_univ (K (c, ro))) (fun h => h) (R := 0 + 1) (duties_later m (cell c ro))) $$ [Hat] with Hz
  · isplitr; · iapply (records_inv m K c ro); iexact HR
    iexact Hat
  iapply Hk
  isplitl [HO]; · iexact HO
  isplitl [Hz]; · iexact Hz
  ihave H := (Entails.of_eq (rest_eq m c ro)) $$ Hpay
  iexact H

/-- Which wait the program's is. -/
theorem wait_dma (c : Dev nD) {ro : Role} {sp sp' : Space} {s : Shape} {e : EltTy} {sem : DmaSem sig} (h : SemLoc.dma sem = csem ro)
    {src : Memref sig .tc sp s e} {dst : Memref sig .tc sp' s e} {h₁ : src.view.WordExact} {h₂ : dst.view.WordExact} (Kt : PUnit → sProp 𝕄) :
    wpE (defs₀ (F := F)) 𝒱₀ (c : Thread nD τ) none Set.univ (.waitDma2 sem src dst h₁ h₂) Kt
      = waitSpec (c : Thread nD τ) Set.univ (csem ro) dst.view.dmaCredit Kt := by
  rw [wpE_waitDma2_eq 𝒱₀ (c : Thread nD τ) none Set.univ, h]

/-- A wait on a cell that one copy of a row completes. -/
theorem wp_land {α : Type} {Q : α → sProp 𝕄} {k : PUnit → Prog (TpuEff nD τ sig (Elt F) Λ₀ .tc) α}
    (c : Dev nD) (ro : Role) (h1 : (dutiesOf c (some ro)).card = 1) (hN : amountOf (some ro) = N) {sem : DmaSem sig} (hsem : SemLoc.dma sem = csem ro)
    {src dst : Memref sig .tc .vmem S1x768 .f32} (s : Dev nD) (hd : dst = rowM s) {h₁ : src.view.WordExact} {h₂ : dst.view.WordExact}
    (W : Waits sig Unit) :
    iprop(records m K ∗ cred (tallyAt (cell c ro) () N) ∗ owes (c : Thread nD τ) 0 W ∗ atPos EX (cell c ro) 0 ∅ 0)
      ⊢ iprop(((owes (c : Thread nD τ) 0 (insert (csem ro, ()) W) ∗ semVal (cell c ro) 0
              ∗ bigSep (dutiesOf c (some ro)) fun d => payOf m c d (some ro))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst h₁ h₂) k) Q) := by
  subst hd
  iintro ⟨#HR, Hc, HO, Hat⟩
  iapply (wp_take m K c ro (n := N) (fun Kt => (wait_dma c hsem Kt).trans (by rw [credit_row])) (by rw [h1, hN, Nat.one_mul]) 0 W)
  isplitr; · iexact HR
  isplitl [Hc]; · iexact Hc
  isplitl [HO]; · iexact HO
  isplitr; · rw [MayWait_zero]; iempintro
  iexact Hat

end Cert.RmsProof
-- ==== Proof.Body.lean ====
/-
The kernel's body on one device, run from what the launch gives it to what it leaves: every semaphore back at zero, its
block of `x` as it was, and the output buffer at the normalised block.
-/
module

public import proofs.«01_k».proof.Proof.Steps
public import proofs.«01_k».proof.Proof.Gen.KernelIdeal.Points

@[expose] public section

noncomputable section

namespace Cert.RmsProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## What the buffers hold -/

/-- Device `c`'s block of `gamma`, as staged, -/
def gin (c : Dev nD) : Vec F S512 .f32 := (win0_0.blk (0 : Fin 1)).view.read (Elt F) (m ((c : Thread nD τ).loc main_arg1))
/-- and its block of the result. -/
def outAt (c : Dev nD) : Vec F S768x512 .f32 :=
  k0_pay1 (part m 0) (part m 1) (part m 2) (part m 3) (k0_pay3 (xin m c) (gin m c))

/-! ## What the body starts from and what it leaves -/

/-- The roles in the order the body uses them. -/
theorem bigSep_roles (c : Dev nD) (Φ : Role → sProp 𝕄) :
    bigSep Finset.univ Φ = iprop(Φ barR ∗ Φ inR ∗ Φ (sendR 0) ∗ Φ (sendR 1) ∗ Φ (sendR 2)
      ∗ Φ (recvR c) ∗ Φ (recvR (peer c 0)) ∗ Φ (recvR (peer c 1)) ∗ Φ (recvR (peer c 2))) :=
  bigSep_univ_eq_bigSepL [barR, inR, sendR 0, sendR 1, sendR 2, recvR c, recvR (peer c 0), recvR (peer c 1), recvR (peer c 2)]
    (by revert c; decide) (by revert c; decide) Φ

/-- The tokens of what device `c` pays to and through the device `j + 1` places on, -/
def toksTo (c : Dev nD) (j : Fin 3) : sProp 𝕄 :=
  iprop(dutyTok EX (cell (peer c j) barR) 0 c ∗ dutyTok EX (cell (peer c j) (recvR c)) 0 c ∗ dutyTok EX (cell c (sendR j)) 0 c)
/-- its positions and all its tokens. -/
def linear (c : Dev nD) : sProp 𝕄 :=
  iprop((bigSep Finset.univ fun ro : Role => atPos EX (cell c ro) 0 ∅ 0)
    ∗ dutyTok EX (cell c inR) 0 c ∗ toksTo c 0 ∗ toksTo c 1 ∗ toksTo c 2)

def creds (c : Dev nD) : sProp 𝕄 :=
  iprop(cred (tallyAt (cell c barR) () 3) ∗ cred (tallyAt (cell c (recvR (peer c 0))) () N)
    ∗ cred (tallyAt (cell c (recvR (peer c 1))) () N) ∗ cred (tallyAt (cell c (recvR (peer c 2))) () N))

def ghost (c : Dev nD) : sProp 𝕄 := iprop(∃ K, records m K ∗ linear c)

def start (c : Dev nD) : sProp 𝕄 := iprop(ghost m c ∗ creds c ∗ levAts L lv ∗ xPts m c)

/-- The kernel's three scratch buffers, at whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scratch c)
def Φ₁ (c : Dev nD) : sProp 𝕄 :=
  iprop(xPts m c ∗ scratch c ∗ bigSep Finset.univ fun ro : Role => semVal (cell c ro) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => gin m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## Reads and writes of whole buffers and of rows -/

theorem hz2 : (![0, 0] : Fin 2 → Nat) = fun _ => 0 := funext fun a => by fin_cases a <;> rfl
theorem hz1 : (![0] : Fin 1 → Nat) = fun _ => 0 := funext fun a => by fin_cases a; rfl

abbrev rWhole : Rect S768x512 := Rect.unit (s := S768x512) ![0, 0] S768x512.size inb_S768x512_S768x512_0_0

theorem read_xv (f : (cc0_scratch0 : Ref sig .tc).ty.Contents (Elt F)) :
    (Memref.whole cc0_scratch0 : Memref sig .tc .vmem S768x512 .f32).view.readAt (Elt F) rWhole.toLoadRect f = f :=
  Memref.readAt_unit_zero (Elt F) cc0_scratch0 hz2 _ f
theorem read_gx (f : (cc0_scratch1 : Ref sig .tc).ty.Contents (Elt F)) :
    (Memref.whole cc0_scratch1 : Memref sig .tc .vmem S768x512 .f32).view.readAt (Elt F) rWhole.toLoadRect f = f :=
  Memref.readAt_unit_zero (Elt F) cc0_scratch1 hz2 _ f
theorem read_gamma (f : (cc0_stg0_0 : Ref sig .tc).ty.Contents (Elt F)) :
    (Memref.whole cc0_stg0_0 : Memref sig .tc .vmem S512 .f32).view.readAt (Elt F) (Rect.unit (s := S512) ![0] S512.size inb_S512_S512_0).toLoadRect f = f :=
  Memref.readAt_unit_zero (Elt F) cc0_stg0_0 hz1 _ f
theorem write_gx (f w : (cc0_scratch1 : Ref sig .tc).ty.Contents (Elt F)) :
    ((Memref.whole cc0_scratch1 : Memref sig .tc .vmem S768x512 .f32).access rWhole : View sig .tc _ _ _).write (Elt F) f w Finset.univ = w :=
  Memref.write_access_unit_zero_univ (Elt F) cc0_scratch1 hz2 _ f w
theorem write_out (f w : (cc0_stg1_0 : Ref sig .tc).ty.Contents (Elt F)) :
    ((Memref.whole cc0_stg1_0 : Memref sig .tc .vmem S768x512 .f32).access rWhole : View sig .tc _ _ _).write (Elt F) f w Finset.univ = w :=
  Memref.write_access_unit_zero_univ (Elt F) cc0_stg1_0 hz2 _ f w

theorem load_row {off : Fin 3 → Nat} (c : Dev nD) (h : off = ![c.val, 0, 0]) (inb : ∀ a, off a + S1x1x768.size a ≤ S4x1x768.size a) :
    commM.view.setOn (Rect.unit (s := S4x1x768) off S1x1x768.size inb).toLoadRect.set ⊆ rowI c := by
  subst h
  exact (show commM.view.setOn (rowRect c).toLoadRect.set ⊆ rowI c from by
    intro i hi
    obtain ⟨x, hx, rfl⟩ := Finset.mem_map.mp hi
    exact hx)

theorem store_set {off : Fin 3 → Nat} (c : Dev nD) (h : off = ![c.val, 0, 0]) (inb : ∀ a, off a + S1x1x768.size a ≤ S4x1x768.size a) :
    (commM.access (Rect.unit (s := S4x1x768) off S1x1x768.size inb)).setOn Finset.univ ⊆ rowI c := by
  subst h
  rw [View.setOn_univ]
  exact (access_set c).subset

theorem store_row_of {off : Fin 3 → Nat} (p : Dev nD → Vec F S1x1x768 .f32) (c : Dev nD) (h : off = ![c.val, 0, 0])
    (inb : ∀ a, off a + S1x1x768.size a ≤ S4x1x768.size a) (f : (cc0_scratch2 : Ref sig .tc).ty.Contents (Elt F)) :
    (rowPts c c fullShare ((commM.access (Rect.unit (s := S4x1x768) off S1x1x768.size inb)).write (Elt F) f (p c) Finset.univ) : sProp 𝕄)
      = rowPts c c fullShare (rowsOf p) := by
  subst h
  exact rowPts_congr c c fullShare (store_row p c f)

theorem store_row_out {off : Fin 3 → Nat} (c : Dev nD) (h : off = ![c.val, 0, 0])
    (inb : ∀ a, off a + S1x1x768.size a ≤ S4x1x768.size a) (f : (cc0_scratch2 : Ref sig .tc).ty.Contents (Elt F)) :
    ((commM.access (Rect.unit (s := S4x1x768) off S1x1x768.size inb)).loc (c : Thread nD τ) ↦[rowI c]{fullShare}
        ((commM.access (Rect.unit (s := S4x1x768) off S1x1x768.size inb)).write (Elt F) f (k0_pay2 (xin m c)) Finset.univ) : sProp 𝕄)
      ⊢ rowPts c c fullShare (rowsOf (part m)) :=
  Entails.of_eq (store_row_of (part m) c h inb f)

/-! ## What each wait takes -/

theorem take_bar (c : Dev nD) : (bigSep (dutiesOf c (some barR)) fun d => (payOf m c d (some barR) : sProp 𝕄))
    = iprop((∃ f, rowPts (peer c 0) c fullShare f) ∗ (∃ f, rowPts (peer c 1) c fullShare f) ∗ (∃ f, rowPts (peer c 2) c fullShare f)) := by
  rw [bigSep_eq_bigSepL_of_eq [peer c 0, peer c 1, peer c 2] (by revert c; decide) (by revert c; decide)]; rfl
theorem take_in (c : Dev nD) : (bigSep (dutiesOf c (some inR)) fun d => (payOf m c d (some inR) : sProp 𝕄)) = iprop(xvPts m c ∗ xPts m c) :=
  bigSep_singleton
theorem take_send (c : Dev nD) (j : Fin 3) :
    (bigSep (dutiesOf c (some (sendR j))) fun d => (payOf m c d (some (sendR j)) : sProp 𝕄)) = rowPts c c (shr j) (parts m) :=
  bigSep_singleton
theorem take_recv (c : Dev nD) (j : Fin 3) :
    (bigSep (dutiesOf c (some (recvR (peer c j)))) fun d => (payOf m c d (some (recvR (peer c j))) : sProp 𝕄))
      = rowPts c (peer c j) fullShare (parts m) := by
  rw [duties_recv (peer_ne c j)]; exact bigSep_singleton
theorem card_recv (c : Dev nD) (j : Fin 3) : (dutiesOf c (some (recvR (peer c j)))).card = 1 := by
  rw [duties_recv (peer_ne c j)]; rfl
theorem card_bar (c : Dev nD) : (dutiesOf c (some barR)).card = 3 := by revert c; decide

section Body

variable (K : Dev nD × Role → ℕ)

/-- The copy of the block of `x` into its buffer. -/
theorem wp_fetch {α : Type} {Q : α → sProp 𝕄} {k : PUnit → Prog (TpuEff nD τ sig (Elt F) Λ₀ .tc) α} (c : Dev nD) {sem : DmaSem sig} (hsem : sem = inS)
    {hsrc : (Memref.whole main_arg0 : Memref sig .tc .hbm S768x512 .f32).view.WordExact}
    {hdst : (Memref.whole cc0_scratch0 : Memref sig .tc .vmem S768x512 .f32).view.WordExact}
    {hty : DmaTarget.Typed (nD := nD) .hbm (.dma sem) (DmaTarget.here (nD := nD) (p := (c : Thread nD τ).2) (Memref.whole cc0_scratch0 : Memref sig .tc .vmem S768x512 .f32))}
    (f : Buf (Elt F) ((c : Thread nD τ).loc cc0_scratch0)) :
    iprop(records m K ∗ xPts m c ∗ (((c : Thread nD τ).loc cc0_scratch0) ↦{fullShare} f) ∗ dutyTok EX (cell c inR) 0 c)
      ⊢ iprop((cred (tallyAt (cell c inR) () NX) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole main_arg0) (.here (Memref.whole cc0_scratch0)) (.dma sem) hsrc hdst hty) k) Q) := by
  subst hsem
  iintro ⟨#HR, Hx, Hf, Ht⟩
  iapply (Rounds.wp_copy_pointsTo 𝒱₀ EX (xRd m) (c : Thread nD τ) none (κ := K (c, inR)) (r := 0) (d := c) (q := fullShare)
    (fs := xin m c) (fd := f)
    (show c ∈ (xRd m).duties (cell c inR) 0 from by rw [duties_eq]; exact Finset.mem_singleton_self _)
    () NX rfl (amount_eq m c inR c)
    (by
      refine BIBase.Entails.trans ?_ (Entails.of_eq (payload_eq m c inR c).symm)
      dsimp only [payOf]
      unfold xvPts xPts
      simp only [Memref.view_whole, View.read_whole, View.set_whole, View.write_whole_univ]
      exact BI.Entails.refl _))
  isplitr; · iapply (records_inv m K c inR); iexact HR
  isplitl [Hx]
  · unfold xPts; simp only [Memref.view_whole, View.set_whole]; iexact Hx
  isplitl [Hf]
  · simp only [Memref.view_whole, View.set_whole]; iexact Hf
  isplitl [Ht]; · iexact Ht
  iapply (records_reached m K c inR); iexact HR

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m c ∗ (dats m ρ 0 c).owesAt () t0_0.succ ∗ stg c cc0_stg0_0 (gin m c) ∗ stg c cc0_stg1_0 (outAt m c))

set_option maxHeartbeats 2000000 in
theorem sound_body (c : Dev nD) (Kt : PUnit → sProp 𝕄) :
    iprop(bodyPre m ρ c ∗ (bodyPost m ρ c -∗ Kt ⟨⟩))
      ⊢ wp frame (wpE (defs₀ (F := F)) 𝒱₀ (c : Thread nD τ) none) Set.univ
          (cc0_body (Memref.whole main_arg0) (Memref.isWhole_whole _) (Memref.whole cc0_stg0_0) (Memref.isWhole_whole _)
            (Memref.whole cc0_stg1_0) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, Prog.bind_assoc, wp_deviceId]
  unfold bodyPre Φ₀ start ghost linear toksTo creds scratch
  iintro ⟨⟨⟨⟨⟨%K, #HR, Hat, HtI, ⟨HtB0, HtV0, HtS0⟩, ⟨HtB1, HtV1, HtS1⟩, ⟨HtB2, HtV2, HtS2⟩⟩, ⟨HcB, HcV0, HcV1, HcV2⟩, #Hlev, Hx⟩, ⟨⟨%f0, Hxv⟩, ⟨%f1, Hgx⟩, ⟨%f2, Hcm⟩⟩⟩,
    Ho, ⟨%d0, %g0, %hg0, Hg⟩, ⟨%d1, %g1, %hg1, Hout⟩⟩, Hk⟩
  have hx : g0 = gin m c := by rw [hg0]; unfold Dat.before; rw [if_pos (fetch0_0 t0_0)]; rfl
  subst hx
  ihave Hat' := (Entails.of_eq (bigSep_roles c fun ro : Role => (atPos EX (cell c ro) 0 ∅ 0 : sProp 𝕄))) $$ Hat
  icases Hat' with ⟨HaB, HaI, HaS0, HaS1, HaS2, HaV, HaV0, HaV1, HaV2⟩
  ihave Hcm' := (Entails.of_eq (comm_rows c f2)) $$ Hcm
  icases Hcm' with ⟨Hrow, Hr0, Hr1, Hr2⟩
  unfold Dat.owesAt Pipeline.owesWithin
  icases Ho with ⟨%W, %hW, HO⟩
  rw [show (dats m ρ 0 c).owed t0_0.castSucc = O₀ c from rfl]
  unfold O₀
  -- the three signals, each handing over a row
  iapply (wp_ready m K c 0 (dev1_eq c) (by decide) f2) $$ [HO HtB0 Hr0]
  · isplitr; · iexact HR
    isplitl [HO]; · iexact HO
    isplitl [HtB0] <;> iassumption
  iintro HO
  iapply (wp_ready m K c 1 (dev2_eq c) (by decide) f2) $$ [HO HtB1 Hr1]
  · isplitr; · iexact HR
    isplitl [HO]; · iexact HO
    isplitl [HtB1] <;> iassumption
  iintro HO
  iapply (wp_ready m K c 2 (dev3_eq c) (by decide) f2) $$ [HO HtB2 Hr2]
  · isplitr; · iexact HR
    isplitl [HO]; · iexact HO
    isplitl [HtB2] <;> iassumption
  iintro HO
  -- the block of `x` comes in
  iapply (wp_fetch m K c rfl f0) $$ [Hx Hxv HtI]
  · isplitr; · iexact HR
    isplitl [Hx]; · iexact Hx
    isplitl [Hxv] <;> iassumption
  iintro HcI
  iapply (wp_take m K c inR (n := NX) (wait_dma c (src := Memref.whole main_arg0) (dst := Memref.whole cc0_scratch0) rfl) (Nat.one_mul NX).symm (OR c) W) $$ [HcI HO HaI]
  · isplitr; · iexact HR
    isplitl [HcI]; · iexact HcI
    isplitl [HO]; · iexact HO
    isplitr; · iapply (mayWait_low c (csem inR) rfl (OR c) (OR_above c)); iexact Hlev
    iexact HaI
  iintro ⟨HO, HzI, Hp⟩
  ihave Hp' := (Entails.of_eq (take_in m c)) $$ Hp
  icases Hp' with ⟨Hxv, Hx⟩
  unfold xvPts
  iapply (wp_load 𝒱₀ (c : Thread nD τ) none Set.univ (m := Memref.whole cc0_scratch0) (Finset.subset_univ _)) $$ Hxv; iintro Hxv
  rw [read_xv]
  -- its sums of squares go into the own row
  unfold rowPts
  iapply (wp_load 𝒱₀ (c : Thread nD τ) none Set.univ (m := commM) (load_row c (k0_off1_eq c) _)) $$ Hrow; iintro Hrow
  iapply (wp_store 𝒱₀ (c : Thread nD τ) none Set.univ (m := commM) (r := Rect.unit (s := S4x1x768) (k0_off1 c) S1x1x768.size (k0_off1_inb c)) (Mk := Finset.univ) (store_set c (k0_off1_eq c) _)) $$ Hrow; iintro Hrow
  ihave Hrow := (store_row_out m c (k0_off1_eq c) (k0_off1_inb c) f2) $$ Hrow
  -- the barrier: the others' rows for it
  iapply (wp_take m K c barR (n := 3) (wpE_semWait_eq 𝒱₀ (c : Thread nD τ) none Set.univ) (by rw [card_bar]; rfl) (OR c)) $$ [HcB HO HaB]
  · isplitr; · iexact HR
    isplitl [HcB]; · iexact HcB
    isplitl [HO]; · iexact HO
    isplitr; · iapply (mayWait_bar c); iexact Hlev
    iexact HaB
  iintro ⟨HO, HzB, Hp⟩
  ihave Hp := (Entails.of_eq (take_bar m c)) $$ Hp
  icases Hp with ⟨⟨%e0, Hd0⟩, ⟨%e1, Hd1⟩, ⟨%e2, Hd2⟩⟩
  -- the own row goes to each of them, a share of it to each copy
  ihave Hsh := (rowPts_shares c c (rowsOf (part m))).1 $$ Hrow
  icases Hsh with ⟨Hq0, Hq1, Hq2⟩
  unfold OR
  iapply (wp_push m K c 1 (dev4_eq c) (rowM_of c (k0_off3_eq c) _) (rowM_of c (k0_off3_eq c) _) rfl (recvS_of c (k0_off2_eq c) _) e1 _ _) $$ [Hq1 Hd1 HO HtS1 HtV1]
  · isplitr; · iexact HR
    isplitl [Hq1]; · iexact Hq1
    isplitl [Hd1]; · iexact Hd1
    isplitl [HO]; · iexact HO
    isplitl [HtS1] <;> iassumption
  iintro ⟨HcS1, HO⟩
  iapply (wp_push m K c 0 (dev5_eq c) (rowM_of c (k0_off3_eq c) _) (rowM_of c (k0_off3_eq c) _) rfl (recvS_of c (k0_off2_eq c) _) e0 _ _) $$ [Hq0 Hd0 HO HtS0 HtV0]
  · isplitr; · iexact HR
    isplitl [Hq0]; · iexact Hq0
    isplitl [Hd0]; · iexact Hd0
    isplitl [HO]; · iexact HO
    isplitl [HtS0] <;> iassumption
  iintro ⟨HcS0, HO⟩
  rw [show owR c 2 = 0 + owR c 2 from (zero_add _).symm]
  iapply (wp_push m K c 2 (dev6_eq c) (rowM_of c (k0_off3_eq c) _) (rowM_of c (k0_off3_eq c) _) rfl (recvS_of c (k0_off2_eq c) _) e2 _ _) $$ [Hq2 Hd2 HO HtS2 HtV2]
  · isplitr; · iexact HR
    isplitl [Hq2]; · iexact Hq2
    isplitl [Hd2]; · iexact Hd2
    isplitl [HO]; · iexact HO
    isplitl [HtS2] <;> iassumption
  iintro ⟨HcS2, HO⟩
  -- meanwhile the block scaled by `gamma`
  iapply (wp_load 𝒱₀ (c : Thread nD τ) none Set.univ (m := Memref.whole cc0_stg0_0) (Finset.subset_univ _)) $$ Hg; iintro Hg
  rw [read_gamma]
  iapply (wp_load 𝒱₀ (c : Thread nD τ) none Set.univ (m := Memref.whole cc0_scratch1) (Finset.subset_univ _)) $$ Hgx; iintro Hgx
  iapply (wp_store 𝒱₀ (c : Thread nD τ) none Set.univ (m := Memref.whole cc0_scratch1) (r := rWhole) (Mk := Finset.univ) (Finset.subset_univ _)) $$ Hgx; iintro Hgx
  rw [write_gx]
  -- the others' rows arrive
  iapply (wp_land m K c (recvR (peer c 0)) (card_recv c 0) rfl (congrArg SemLoc.dma (recvS_of (peer c 0) (off4_eq c 0) _)) (peer c 0) (rowM_of (peer c 0) (off5_eq c 0) _) _) $$ [HcV0 HO HaV0]
  · isplitr; · iexact HR
    isplitl [HcV0]; · iexact HcV0
    isplitl [HO]; · iexact HO
    iexact HaV0
  iintro ⟨HO, HzV0, Hp⟩
  ihave Hr0 := (Entails.of_eq (take_recv m c 0)) $$ Hp
  iapply (wp_land m K c (recvR (peer c 1)) (card_recv c 1) rfl (congrArg SemLoc.dma (recvS_of (peer c 1) (off4_eq c 1) _)) (peer c 1) (rowM_of (peer c 1) (off5_eq c 1) _) _) $$ [HcV1 HO HaV1]
  · isplitr; · iexact HR
    isplitl [HcV1]; · iexact HcV1
    isplitl [HO]; · iexact HO
    iexact HaV1
  iintro ⟨HO, HzV1, Hp⟩
  ihave Hr1 := (Entails.of_eq (take_recv m c 1)) $$ Hp
  iapply (wp_land m K c (recvR (peer c 2)) (card_recv c 2) rfl (congrArg SemLoc.dma (recvS_of (peer c 2) (off4_eq c 2) _)) (peer c 2) (rowM_of (peer c 2) (off5_eq c 2) _) _) $$ [HcV2 HO HaV2]
  · isplitr; · iexact HR
    isplitl [HcV2]; · iexact HcV2
    isplitl [HO]; · iexact HO
    iexact HaV2
  iintro ⟨HO, HzV2, Hp⟩
  ihave Hr2 := (Entails.of_eq (take_recv m c 2)) $$ Hp
  -- the own copies are out: the shares come back
  iapply (wp_land m K c (sendR 1) rfl rfl rfl c (rowM_of c (k0_off3_eq c) _) _) $$ [HcS1 HO HaS1]
  · isplitr; · iexact HR
    isplitl [HcS1]; · iexact HcS1
    isplitl [HO]; · iexact HO
    iexact HaS1
  iintro ⟨HO, HzS1, Hp⟩
  ihave Hq1 := (Entails.of_eq (take_send m c 1)) $$ Hp
  iapply (wp_land m K c (sendR 0) rfl rfl rfl c (rowM_of c (k0_off3_eq c) _) _) $$ [HcS0 HO HaS0]
  · isplitr; · iexact HR
    isplitl [HcS0]; · iexact HcS0
    isplitl [HO]; · iexact HO
    iexact HaS0
  iintro ⟨HO, HzS0, Hp⟩
  ihave Hq0 := (Entails.of_eq (take_send m c 0)) $$ Hp
  iapply (wp_land m K c (sendR 2) rfl rfl rfl c (rowM_of c (k0_off3_eq c) _) _) $$ [HcS2 HO HaS2]
  · isplitr; · iexact HR
    isplitl [HcS2]; · iexact HcS2
    isplitl [HO]; · iexact HO
    iexact HaS2
  iintro ⟨HO, HzS2, Hp⟩
  ihave Hq2 := (Entails.of_eq (take_send m c 2)) $$ Hp
  -- the receive cell of its own index, never used, closes as it stands
  imod (Rounds.cell_close EX (xRd m) (Set.mem_univ (K (c, recvR c))) (fun h => h) (R := 0) (duties_own m c)) $$ [HaV] with HzV
  · isplitr; · iapply (records_inv m K c (recvR c)); iexact HR
    iexact HaV
  -- the four rows are the whole buffer
  ihave Hrow := (rowPts_shares c c (parts m)).2 $$ [Hq0 Hq1 Hq2]
  · isplitl [Hq0]; · iexact Hq0
    isplitl [Hq1] <;> iassumption
  ihave Hcm := (Entails.of_eq (comm_rows c (parts m)).symm) $$ [Hrow Hr0 Hr1 Hr2]
  · isplitl [Hrow]; · iexact Hrow
    isplitl [Hr0]; · iexact Hr0
    isplitl [Hr1] <;> iassumption
  iapply (wp_load 𝒱₀ (c : Thread nD τ) none Set.univ (m := commM) (Finset.subset_univ _)) $$ Hcm; iintro Hcm
  iapply (wp_load 𝒱₀ (c : Thread nD τ) none Set.univ (m := commM) (Finset.subset_univ _)) $$ Hcm; iintro Hcm
  iapply (wp_load 𝒱₀ (c : Thread nD τ) none Set.univ (m := commM) (Finset.subset_univ _)) $$ Hcm; iintro Hcm
  iapply (wp_load 𝒱₀ (c : Thread nD τ) none Set.univ (m := commM) (Finset.subset_univ _)) $$ Hcm; iintro Hcm
  iapply (wp_load 𝒱₀ (c : Thread nD τ) none Set.univ (m := Memref.whole cc0_scratch1) (Finset.subset_univ _)) $$ Hgx; iintro Hgx
  rw [read_gx]
  iapply (wp_load 𝒱₀ (c : Thread nD τ) none Set.univ (m := Memref.whole cc0_stg1_0) (Finset.subset_univ _)) $$ Hout; iintro Hout
  iapply (wp_store 𝒱₀ (c : Thread nD τ) none Set.univ (m := Memref.whole cc0_stg1_0) (r := rWhole) (Mk := Finset.univ) (Finset.subset_univ _)) $$ Hout; iintro Hout
  rw [write_out, wp_ret]; imodintro
  iapply Hk
  unfold bodyPost Φ₁ Dat.owesAt Pipeline.owesWithin scratch
  rw [show (dats m ρ 0 c).owed t0_0.succ = 0 from rfl]
  isplitl [Hx Hxv Hgx Hcm HzB HzI HzS0 HzS1 HzS2 HzV HzV0 HzV1 HzV2]
  · isplitl [Hx]; · iexact Hx
    isplitl [Hxv Hgx Hcm]
    · isplitl [Hxv]; · iexists _; iexact Hxv
      isplitl [Hgx]; · iexists _; iexact Hgx
      iexists _; iexact Hcm
    iapply (Entails.of_eq (bigSep_roles c fun ro : Role => (semVal (cell c ro) 0 : sProp 𝕄)).symm)
    isplitl [HzB]; · iexact HzB
    isplitl [HzI]; · iexact HzI
    isplitl [HzS0]; · iexact HzS0
    isplitl [HzS1]; · iexact HzS1
    isplitl [HzS2]; · iexact HzS2
    isplitl [HzV]; · iexact HzV
    isplitl [HzV0]; · iexact HzV0
    isplitl [HzV1] <;> iassumption
  isplitl [HO]
  · iexists _
    isplitr
    rotate_left
    · iexact HO
    · ipureintro; exact fun _ _ => Or.inl trivial
  isplitl [Hg]
  · iexists _; isplitr; · (ipureintro; rfl)
    iexact Hg
  iexists _; isplitr
  · ipureintro
    unfold outAt
    rw [← readAt_row (part m) 0, ← readAt_row (part m) 1, ← readAt_row (part m) 2, ← readAt_row (part m) 3]
  iexact Hout

end Body
end Cert.RmsProof
-- ==== Proof.Run.lean ====
/-
The whole program: the launch deals every device its ghost state, the four devices run the kernel's body, and what the
memory holds at the end is read off.
-/
module

public import proofs.«01_k».proof.Proof.Body
public import Idealize.ShloMosaic.Lib.Quiescent
public import Idealize.ShloMosaic.Lib.Pipeline.CollectiveSegs

@[expose] public section

noncomputable section

namespace Cert.RmsProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The body as the pipeline asks for it. -/
theorem body_obligation (c : Dev nD) : BodyObligation (dats (F := F) m ρ 0 c) (defs₀ (F := F)) 𝒱₀ () Set.univ := fun t => by
  rw [fin_N0 t, bigSep_W0, bigSep_W0]
  simp only [owns_whole_eq]
  show bodyPre m ρ c ⊢ wp frame (wpE (defs₀ (F := F)) 𝒱₀ (c : Thread nD τ) none) Set.univ (bodyAt0 t0_0) (fun _ => bodyPost m ρ c)
  iintro H
  iapply (sound_body m ρ c fun _ => bodyPost m ρ c)
  isplitl [H]; · iexact H
  iintro H; iexact H

/-! ## The ghost state at the start -/

theorem ownSemFacts : Pipeline.OwnSemFacts cfg0.spec osem := by decide

theorem share_eq (c : Dev nD) (w : Fin cfg0.W) : (dats m ρ 0 c).share w = fullShare := by unfold Dat.share; split <;> rfl

def allCells : Finset (GSem nD τ sig) := Finset.univ.map
  ⟨fun p : Dev nD × Role => cell p.1 p.2, fun _ _ h => Prod.ext (cell_inj h).1 (cell_inj h).2⟩

/-- The payments of one device: into its input cell, and for each other device the signal, the arrival and the
    completion of the copy to it. -/
abbrev Pay : Type := Option (Fin 3 × Fin 3)

def payAt : Dev nD → Pay → Dev nD × Role
  | c, none => (c, inR)
  | c, some (j, 0) => (peer c j, barR)
  | c, some (j, 1) => (peer c j, recvR c)
  | c, some (j, 2) => (c, sendR j)

theorem payAt_inj : ∀ (c : Dev nD) (i i' : Pay), payAt c i = payAt c i' → i = i' := by decide +kernel

abbrev tokOf (p : Dev nD × Pay) : GSem nD τ sig × ℕ × Dev nD := (cell (payAt p.1 p.2).1 (payAt p.1 p.2).2, 0, p.1)

theorem tokOf_inj : Function.Injective tokOf := by
  rintro ⟨c, i⟩ ⟨c', i'⟩ h
  obtain rfl : c = c' := congrArg (fun x : GSem nD τ sig × ℕ × Dev nD => x.2.2) h
  have h' := cell_inj (congrArg Prod.fst h)
  rw [payAt_inj c i i' (Prod.ext h'.1 h'.2)]

def allToks : Finset (GSem nD τ sig × ℕ × Dev nD) := Finset.univ.map ⟨tokOf, tokOf_inj⟩

def u₀ : UU := (initOf (Pipeline.cells cfgs cellOf_inj) (Pipeline.launchToks cfgs cellOf_inj), initOf allCells allToks)

def toks (c : Dev nD) : sProp 𝕄 := bigSep Finset.univ fun i : Pay => dutyTok EX (cell (payAt c i).1 (payAt c i).2) 0 c

theorem toks_linear (c : Dev nD) :
    (toks c : sProp 𝕄) ⊢ iprop(dutyTok EX (cell c inR) 0 c ∗ toksTo c 0 ∗ toksTo c 1 ∗ toksTo c 2) := by
  unfold toks toksTo
  rw [bigSep_univ_eq_bigSepL [(none : Pay), some (0, 0), some (0, 1), some (0, 2), some (1, 0), some (1, 1), some (1, 2), some (2, 0), some (2, 1), some (2, 2)]
    (by decide) (by decide)]
  dsimp only [bigSepL, payAt]
  show iprop(_ ∗ _ ∗ _ ∗ _ ∗ _ ∗ _ ∗ _ ∗ _ ∗ _ ∗ _) ⊢ _
  iintro ⟨HI, H1, H2, H3, H4, H5, H6, H7, H8, H9⟩
  isplitl [HI]; · iexact HI
  isplitl [H1 H2 H3]
  · isplitl [H1]; · iexact H1
    isplitl [H2]; · iexact H2
    iexact H3
  isplitl [H4 H5 H6]
  · isplitl [H4]; · iexact H4
    isplitl [H5]; · iexact H5
    iexact H6
  isplitl [H7]; · iexact H7
  isplitl [H8]; · iexact H8
  iexact H9

/-- What the launch deals device `c`. -/
def G (c : Dev nD) : sProp 𝕄 :=
  iprop((bigSep Finset.univ fun k : Role => roundState EX (xRd m) (cell c k) 0)
    ∗ ((bigSep Finset.univ fun k : Role => atPos EX (cell c k) 0 ∅ 0) ∗ bigSep Finset.univ fun k : Role => reached EX (cell c k) 0)
    ∗ toks c)

theorem fund_all : BI.own (EX (initOf allCells allToks)) ⊢ (|==> bigSep Finset.univ (G m) : sProp 𝕄) := by
  have hX (Φ : GSem nD τ sig → sProp 𝕄) : bigSep allCells Φ = bigSep Finset.univ fun c : Dev nD => bigSep Finset.univ fun k : Role => Φ (cell c k) := by
    unfold allCells; rw [bigSep_map, bigSep_univ_prod]; rfl
  have hT : bigSep allToks (fun x => (dutyTok EX x.1 x.2.1 x.2.2 : sProp 𝕄)) = bigSep Finset.univ fun c : Dev nD => toks c := by
    unfold allToks; rw [bigSep_map, bigSep_univ_prod]; rfl
  iintro HX
  imod (Rounds.fund EX (xRd m) allCells allToks) $$ HX with ⟨Hst, Hr, Hat, Htok⟩
  imodintro
  ihave Hst := (Entails.of_eq (hX fun g => roundState EX (xRd m) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold G; simp only [bigSep_sep']
  isplitl [Hst]; · iexact Hst
  isplitl [Hat Hr]
  · isplitl [Hat] <;> iassumption
  iexact Htok

/-! ## The invariants of all the cells -/

/-- The barrier's counter and those of the kernel's own semaphores are the counters of the device's cells. -/
theorem sems0_eq (c : Dev nD) :
    iprop(Pipeline.ownSems0 (Ix := Unit) (Name := ℕ) (U := UU) (Lvl := ℕ) (Val := Elt F) (τ := τ) osem c ∗ unscopedSems0 c)
      ⊣⊢ (bigSep Finset.univ fun k : Role => semVal (cell c k) 0 : sProp 𝕄) := by
  rw [bigSep_univ_split (none : Role)]
  have hb : (unscopedSems0 c : sProp 𝕄) = semVal (cell c barR) 0 := by
    unfold unscopedSems0; rw [bigSep_eq_bigSepL_of_eq [SemLoc.reg barS] (by decide) (by decide)]; rfl
  have ho : (Pipeline.ownSems0 (Ix := Unit) (Name := ℕ) (U := UU) (Lvl := ℕ) (Val := Elt F) (τ := τ) osem c : sProp 𝕄)
      = bigSep (Finset.univ.erase (none : Role)) fun k => semVal (cell c k) 0 := by
    rw [show (Finset.univ.erase (none : Role)) = Finset.univ.map Function.Embedding.some from by decide, bigSep_map]; rfl
  rw [hb, ho]
  exact sep_comm

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Role => iprop(∃ κ : ℕ, cellInv EX (xRd m) κ (cell c k)))
          ∗ (bigSep Finset.univ fun k : Role => reached EX (cell c k) 0)
          ∗ linear c) := by
  unfold G
  iintro ⟨Hos, Hus, Hst, ⟨Hat, Hr⟩, Htok⟩
  ihave Hv := (sems0_eq (F := F) c).1 $$ [Hos Hus]
  · isplitl [Hos] <;> iassumption
  have halloc : iprop((bigSep Finset.univ fun k : Role => semVal (cell c k) 0) ∗ bigSep Finset.univ fun k : Role => roundState EX (xRd m) (cell c k) 0)
      ⊢ (|={Set.univ}=> bigSep Finset.univ fun k : Role => iprop(∃ κ : ℕ, cellInv EX (xRd m) κ (cell c k)) : sProp 𝕄) := by
    rw [← bigSep_sep']
    exact (bigSep_mono fun k _ => (Rounds.body_intro EX (xRd m) (cell c k)).trans inv_alloc).trans (bigSep_fupd _ _)
  imod halloc $$ [Hv Hst] with Hinv
  · isplitl [Hv] <;> iassumption
  imodintro
  isplitl [Hinv]; · iexact Hinv
  isplitl [Hr]; · iexact Hr
  unfold linear
  isplitl [Hat]; · iexact Hat
  iapply (toks_linear (F := F) c); iexact Htok

/-- Something persistent is had by every member. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Role => iprop(∃ κ : ℕ, cellInv EX (xRd m) κ (cell c k)))
          ∗ (bigSep Finset.univ fun k : Role => reached EX (cell c k) 0) ∗ linear c) : sProp 𝕄)
      ⊢ bigSep Finset.univ (ghost m) := by
  rw [bigSep_sep', bigSep_sep', ← bigSep_univ_prod (fun p : Dev nD × Role => iprop(∃ κ : ℕ, cellInv EX (xRd m) κ (cell p.1 p.2))),
    ← bigSep_univ_prod (fun p : Dev nD × Role => (reached EX (cell p.1 p.2) 0 : sProp 𝕄))]
  iintro ⟨HI, #HR, Hl⟩
  ihave HK := (BI.bigSep_exists_pi Finset.univ (fun (p : Dev nD × Role) (κ : ℕ) => (cellInv EX (xRd m) κ (cell p.1 p.2) : sProp 𝕄))) $$ HI
  icases HK with ⟨%K, #HI⟩
  have hg (c : Dev nD) (_ : c ∈ (Finset.univ : Finset (Dev nD))) : iprop(records m K ∗ linear c) ⊢ ghost m c := by
    unfold ghost; iintro H; iexists K; iexact H
  iapply (bigSep_with (R := records m K) hg)
  isplitr
  · unfold records; isplitl; · iexact HI
    iexact HR
  iexact Hl

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## The credit for what is owed -/

/-- How many copies, and how many signals, device `d` owes at the cell `p`. -/
def nR (d : Dev nD) (p : Dev nD × Role) : ℕ := ∑ j : Fin 3, if p = (peer d j, recvR d) then 1 else 0
def nB (d : Dev nD) (p : Dev nD × Role) : ℕ := ∑ j : Fin 3, if p = (peer d j, barR) then 1 else 0

theorem tally_cell (p p' : Dev nD × Role) (n : ℕ) :
    (tallyAt (cell p'.1 p'.2) () n : CellTallies nD τ sig Unit) (cell p.1 p.2) () = (if p = p' then 1 else 0) * n := by
  rw [tallyAt_apply]
  by_cases h : p = p'
  · rw [if_pos ⟨by rw [h], rfl⟩, if_pos h, Nat.one_mul]
  · rw [if_neg fun h' => h (Prod.ext (cell_inj h'.1).1 (cell_inj h'.1).2), if_neg h, Nat.zero_mul]

theorem owed_cell (d : Dev nD) (p : Dev nD × Role) : O₀ d (cell p.1 p.2) () = nR d p * N + nB d p * 1 := by
  unfold O₀ OR nR nB
  simp only [Pi.add_apply, Finsupp.add_apply, Fin.sum_univ_three]
  rw [tally_cell p (peer d 0, recvR d), tally_cell p (peer d 1, recvR d), tally_cell p (peer d 2, recvR d),
    tally_cell p (peer d 0, barR), tally_cell p (peer d 1, barR), tally_cell p (peer d 2, barR)]
  simp only [Nat.add_mul]
  ac_rfl

theorem launch_cell (p : Dev nD × Role) :
    tallyOn (cell p.1 p.2) (launchCredit (Pipeline.owing O₀) 0 (cell p.1 p.2))
      = (tallyAt (cell p.1 p.2) () ((∑ d, nR d p) * N + (∑ d, nB d p) * 1) : CellTallies nD τ sig Unit) := by
  unfold tallyAt; refine congrArg _ (Finsupp.ext fun u => ?_); cases u
  rw [Pipeline.launchCredit_owing, Finsupp.single_eq_same, Finset.sum_congr rfl fun d _ => owed_cell d p, Finset.sum_add_distrib,
    ← Finset.sum_mul, ← Finset.sum_mul]

theorem count_bar : ∀ c : Dev nD, (∑ d, nR d (c, barR)) = 0 ∧ (∑ d, nB d (c, barR)) = 3 := by decide +kernel
theorem count_recv : ∀ (c : Dev nD) (j : Fin 3), (∑ d, nR d (c, recvR (peer c j))) = 1 ∧ (∑ d, nB d (c, recvR (peer c j))) = 0 := by
  decide +kernel

theorem launch_bar (c : Dev nD) : tallyOn (cell c barR) (launchCredit (Pipeline.owing O₀) 0 (cell c barR)) = (tallyAt (cell c barR) () 3 : CellTallies nD τ sig Unit) := by
  rw [launch_cell (c, barR), (count_bar c).1, (count_bar c).2, Nat.zero_mul, Nat.zero_add, Nat.mul_one]
theorem launch_recv (c : Dev nD) (j : Fin 3) :
    tallyOn (cell c (recvR (peer c j))) (launchCredit (Pipeline.owing O₀) 0 (cell c (recvR (peer c j)))) = (tallyAt (cell c (recvR (peer c j))) () N : CellTallies nD τ sig Unit) := by
  rw [launch_cell (c, recvR (peer c j)), (count_recv c j).1, (count_recv c j).2, Nat.one_mul, Nat.zero_mul, Nat.add_zero]

theorem creds_intro (c : Dev nD) : (Pipeline.launchCred O₀ c : sProp 𝕄) ⊢ creds c := by
  unfold Pipeline.launchCred
  refine (bigSep_subset (Finset.subset_univ (Finset.univ.map ⟨csem, csem_inj⟩))).trans ?_
  rw [bigSep_map]
  refine (Entails.of_eq (bigSep_roles c _)).trans ?_
  dsimp only [Function.Embedding.coeFn_mk]
  unfold creds
  rw [← launch_bar, ← launch_recv, ← launch_recv, ← launch_recv]
  iintro ⟨HB, -, -, -, -, -, H0, H1, H2⟩
  isplitl [HB]; · iexact HB
  isplitl [H0]; · iexact H0
  isplitl [H1] <;> iassumption

/-! ## From the launch to the body and back -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  rw [Pipeline.unscopedRestP_none, unscopedRest0_eq]
  iintro ⟨Hx, Hlev, Hcr, -, HG⟩
  ihave Hc := (creds_intro (F := F) c) $$ Hcr
  imodintro
  unfold start xPts xin
  isplitl
  · isplitl [HG]; · iexact HG
    isplitl [Hc]; · iexact Hc
    isplitl [Hlev]; · iexact Hlev
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

/-- What comes back besides the scratch: the block of `x` and the barrier's counter. -/
def back (c : Dev nD) : sProp 𝕄 := iprop(xPts m c ∗ unscopedSems0 c)

theorem phi1_exit (c : Dev nD) :
    (dats m ρ 0 c).Φ (Fin.last cfg0.N) ⊢ iprop(back m c ∗ Pipeline.ownSems0 osem c ∗ Pipeline.scopedRest cfg0.spec c) := by
  rw [show (dats m ρ 0 c).Φ (Fin.last cfg0.N) = Φ₁ m c from rfl, scopedRest0_eq]
  unfold Φ₁ back scratch
  iintro ⟨Hx, Hs, Hz⟩
  ihave Hz := (sems0_eq (F := F) c).2 $$ Hz
  icases Hz with ⟨Hos, Hus⟩
  isplitl [Hx Hus]
  · isplitl [Hx] <;> iassumption
  isplitl [Hos] <;> iassumption

/-- What is read at the end: the block of `x` is as it was, and the counters of no scope are zero. -/
def Back (c : Dev nD) (s : MemSt nD τ sig (Elt F)) : Prop :=
  s.mem ((c : Thread nD τ).loc main_arg0) = m ((c : Thread nD τ).loc main_arg0)
    ∧ ∀ sm : SemLoc sig, sm.isScoped .tc = false → s.sem ((c : Thread nD τ), sm) = 0

theorem back_read (c : Dev nD) (s' : Phys nD τ sig (Elt F)) :
    iprop(back m c ∗ emp ∗ SI s') ⊢ |={Set.univ}=> iprop(⌜Back m c s'.mem⌝ ∗ (SI s' : sProp 𝕄)) := by
  unfold back xPts xin
  iintro ⟨⟨Hx, Hu⟩, -, HSI⟩
  icombine HSI Hx gives %hx
  imod (Pipeline.unscopedSems0_read (X := unscopedSems0 c) (c := c) fupd_intro s') $$ [Hu HSI] with ⟨%hs, HSI⟩
  · isplitl [Hu] <;> iassumption
  imodintro
  isplitr
  · ipureintro; exact ⟨Buf.eq_of_forall_mem_univ hx, hs⟩
  iexact HSI

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact O₀_above c
      · exact fun g u h => absurd h (Nat.lt_irrefl 0))

/-! ## The run -/

def finalA (c : Dev nD) (w : Fin cfg0.W) : Buf (Elt F) ((cfg0.win w).arr.view.loc (c : Thread nD τ)) := (dats m ρ 0 c).arrAt w cfg0.N

def Post (r : PUnit × MemSt nD τ sig (Elt F)) : Prop :=
  (∀ c : Dev nD, (∀ w : Fin cfg0.W, r.2.mem ((cfg0.win w).arr.view.loc (c : Thread nD τ)) = finalA m ρ c w) ∧ Back m c r.2)
    ∧ r.2.sem = fun _ => 0

set_option maxRecDepth 8000 in
/-- From any memory, every fair execution on the four devices ends; the two windows' arrays then hold what the body
    made of them, `x` is as it was, and every semaphore is at zero. -/
theorem run_main : θ_run defs (onTc (τ := τ) (main (F := F))) (s₀ m ρ) (Post m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := ghost m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := back m) (Z := fun _ => iprop(emp))
    (hX := start_intro m ρ) (hin := phi0_intro m ρ) (hout := phi1_exit m ρ)
    (QY := Back m) (hY := back_read m)
    (hQ := fun _ h hs => ⟨fun c => ⟨(h c).1, (h c).2.2⟩, sem_eq_zero hs fun c => (h c).2.2.2⟩)

/-! ## What the arrays hold -/

/-- The one block of `gamma` is the whole of it, -/
theorem gin_eq (c : Dev nD) : gin m c = m ((c : Thread nD τ).loc main_arg1) :=
  Memref.read_access_unit_zero (Elt F) main_arg1 (funext fun a => by fin_cases a; decide) (fun a => by fin_cases a; decide) _

/-- which the run does not change; -/
theorem finalA_gamma (c : Dev nD) : finalA m ρ c (0 : Fin 2) = m ((c : Thread nD τ).loc main_arg1) :=
  (dats (F := F) m ρ 0 c).arrAt_in (0 : Fin 2) rfl _

/-- the result's one block is the whole of the result. -/
theorem finalA_out (c : Dev nD) : finalA m ρ c (1 : Fin 2) = outAt m c := by
  have h : (win0_1.blk (0 : Fin 1)).view.read (Elt F) (finalA m ρ c (1 : Fin 2)) = outAt m c := by
    unfold finalA
    rw [show cfg0.N = ((0 : Fin 1) : Fin cfg0.N).val + 1 from rfl, (dats m ρ 0 c).arrAt_succ (1 : Fin 2) (0 : Fin 1),
      if_pos (flush0_1 (0 : Fin 1))]
    exact View.read_write_univ _ _
  exact (Memref.read_access_unit_zero (Elt F) main_v1 (funext fun a => by fin_cases a <;> decide) (fun a => by fin_cases a <;> decide) _).symm.trans h

/-- The run, read at the three arrays. -/
theorem run_arrays : θ_run defs (onTc (τ := τ) (main (F := F))) (s₀ m ρ) (fun r => (∀ c : Dev nD,
      r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨((h.1 c).1 (1 : Fin 2)).trans (finalA_out m ρ c), (h.1 c).2.1,
    ((h.1 c).1 (0 : Fin 2)).trans (finalA_gamma m ρ c)⟩, h.2⟩) (run_main m ρ)

end Cert.RmsProof
-- ==== Proof.Scalars.lean ====
/-
Facts about extended reals, with no program in sight: a quotient by a square root is a product with the reciprocal
square root wherever the argument is positive, and the mean of squares plus the small constant is positive.
-/
module

public import Idealize.ShloMosaic.Lib.Pointwise

@[expose] public section

noncomputable section

namespace Cert.RmsProof

open Idealize.ShloMosaic

/-- Dividing by the square root of a positive number, finite or not, is multiplying with its reciprocal square root. -/
theorem div_sqrt_eq (a : EReal) {t : EReal} (ht : 0 < t) : Ideal.div a (Ideal.sqrt t) = a * Ideal.rsqrt t := by
  induction t using EReal.rec with
  | bot => exact absurd ht (not_lt_of_ge bot_le)
  | top =>
    show Ideal.div a ⊤ = a * 0
    rw [Ideal.div, if_neg EReal.top_ne_zero, EReal.inv_top]
  | coe r =>
    have hr : 0 < r := EReal.coe_pos.mp ht
    have hs : Ideal.sqrt (r : EReal) = ((Real.sqrt r : ℝ) : EReal) := if_neg (not_lt_of_gt hr)
    have hi : Ideal.rsqrt (r : EReal) = (((Real.sqrt r)⁻¹ : ℝ) : EReal) :=
      (if_neg (not_lt_of_gt hr)).trans (if_neg hr.ne')
    rw [hs, hi, Ideal.div_coe (Real.sqrt_pos.mpr hr).ne', one_div]

/-- A square is not negative, whether its root is finite or not. -/
theorem sq_nonneg_ereal (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- The number of columns of the whole array, as both programs write it. -/
theorem ofBits_2048 : Ideal.ofBits .f32 0x45000000#32 = ((2048 : ℝ) : EReal) := by
  simp [Ideal.ofBits, Ideal.ieee]
  norm_num
  rw [← EReal.coe_mul]
  norm_num

/-- The constant added under the root is positive. -/
theorem ofBits_eps_pos : 0 < Ideal.ofBits .f32 0x3727C5AC#32 := by
  simp [Ideal.ofBits, Ideal.ieee]
  norm_num
  rw [← EReal.coe_mul]
  exact EReal.coe_pos.mpr (by norm_num)

/-- What stands under the root: the mean of a sum `S` over the 2048 columns, plus the small constant. -/
def meanEps (S : EReal) : EReal := Ideal.div S (Ideal.ofBits .f32 0x45000000#32) + Ideal.ofBits .f32 0x3727C5AC#32

theorem meanEps_pos {S : EReal} (hS : 0 ≤ S) : 0 < meanEps S := by
  unfold meanEps
  rw [ofBits_2048, Ideal.div_coe (by norm_num)]
  exact lt_of_lt_of_le ofBits_eps_pos
    (le_add_of_nonneg_left (mul_nonneg hS (EReal.coe_nonneg.mpr (by norm_num))))

/-- A sum over 2048 columns, taken by blocks of 512. -/
theorem sum_blocks (f : Fin 2048 → EReal) :
    ∑ k, f k = ∑ c : Fin 4, ∑ l : Fin 512, f ⟨c.val * 512 + l.val, by omega⟩ := by
  rw [← Fintype.sum_prod_type']
  refine (Fintype.sum_equiv (finProdFinEquiv (m := 4) (n := 512)) _ _ fun p => ?_).symm
  exact congrArg f (Fin.ext (by simp [finProdFinEquiv, Nat.mul_comm, Nat.add_comm]))

end Cert.RmsProof

end
-- ==== Proof.Value.lean ====
/-
What the kernel leaves in a device's result array, element by element, on extended reals: the scaled element times the
reciprocal square root of the mean of the row's squares, the sum of squares taken device by device.
-/
module

public import proofs.«01_k».proof.Proof.Run
public import proofs.«01_k».proof.Proof.Scalars

@[expose] public section

set_option maxRecDepth 16384

noncomputable section

namespace Cert.RmsProof

open Cert.KernelIdeal Cert.KernelIdeal.Gen
open Idealize.ShloMosaic
open Idealize.ShloMosaic.TcCoe

/-- The sum of the squares of row `i` of a device's block. -/
def sqSum (x : Vec Ideal S768x512 .f32) (i : Fin 768) : EReal :=
  ∑ k : Fin 512, (x (ix2 i k) : EReal) * x (ix2 i k)

/-- The row a device sends: its rows' sums of squares. -/
theorem pay2_apply (x : Vec Ideal S768x512 .f32) (i : Fin 768) : (k0_pay2 x (ix3 0 0 i) : EReal) = sqSum x i := by
  pointwise [k0_pay2, sqSum]

/-- The scaled block: gamma's entry of the column times the element. -/
theorem pay3_apply (x : Vec Ideal S768x512 .f32) (g : Vec Ideal S512 .f32) (i : Fin 768) (j : Fin 512) :
    (k0_pay3 x g (ix2 i j) : EReal) = g (ix1 j) * x (ix2 i j) := by
  pointwise [k0_pay3]

/-- The block a device stores, of the four rows of sums and the scaled block. -/
theorem pay1_apply (r0 r1 r2 r3 : Vec Ideal S1x1x768 .f32) (y : Vec Ideal S768x512 .f32) (i : Fin 768) (j : Fin 512) :
    (k0_pay1 r0 r1 r2 r3 y (ix2 i j) : EReal)
      = y (ix2 i j) * Ideal.rsqrt (meanEps (r0 (ix3 0 0 i) + r1 (ix3 0 0 i) + r2 (ix3 0 0 i) + r3 (ix3 0 0 i))) := by
  pointwise [k0_pay1, meanEps]

/-- What device `c` ends with, at an element. -/
theorem outAt_apply (m : (ℓ : Loc nD τ sig) → Buf (Elt Ideal) ℓ) (c : Dev nD) (i : Fin 768) (j : Fin 512) :
    (outAt m c (ix2 i j) : EReal)
      = (gin m c (ix1 j) * xin m c (ix2 i j)) * Ideal.rsqrt (meanEps (∑ s : Fin 4, sqSum (xin m s) i)) := by
  unfold outAt part
  rw [pay1_apply, pay3_apply]
  simp only [pay2_apply]
  rw [Fin.sum_univ_four]

end Cert.RmsProof

end
-- ==== Proof.RefValue.lean ====
/-
What the reference computes of the whole arrays, as one function of them, and element by element on extended reals.
-/
module

public import proofs.«01_k».proof.Proof.Gen.ReferenceIdeal.Run
public import proofs.«01_k».proof.Proof.Scalars

@[expose] public section

set_option maxRecDepth 16384

noncomputable section

namespace Cert.RmsProof

open Cert.ReferenceIdeal Cert.ReferenceIdeal.Gen
open Idealize.ShloMosaic Idealize.SL.Sem
open Idealize.ShloMosaic.TcCoe

/-- The reference's result, as its operations compose it from the whole arrays. -/
def refOut (x : FVec Ideal S768x2048 .f32) (g : FVec Ideal S2048 .f32) : FVec Ideal S768x2048 .f32 :=
  Host.divf
    (mulf (broadcastInDim S768x2048 ![0, 1] bcast_S1x2048_S768x2048_0_1 (broadcastInDim S1x2048 ![1] bcast_S2048_S1x2048_1 g)) x)
    (broadcastInDim S768x2048 ![0, 1] bcast_S768x1_S768x2048_0_1
      (Host.sqrt (addf
        (Host.divf
          (broadcastInDim S768x1 ![0] bcast_S768_S768x1_0
            (Host.reduceAdd (mulf x x) (constant S_ .f32 0x00000000#32) reducesTo_S768x2048_S768_d1 h_S_))
          (broadcastInDim S768x1 ![] bcast_S_S768x1 (constant S_ .f32 0x45000000#32)))
        (broadcastInDim S768x1 ![] bcast_S_S768x1 (constant S_ .f32 0x3727C5AC#32)))))

/-- The reference's result at an element. -/
theorem refOut_apply (x : FVec Ideal S768x2048 .f32) (g : FVec Ideal S2048 .f32) (i : Fin 768) (j : Fin 2048) :
    (refOut x g (ix2 i j) : EReal)
      = Ideal.div (g (ix1 j) * x (ix2 i j))
          (Ideal.sqrt (meanEps (∑ k : Fin 2048, (x (ix2 i k) : EReal) * x (ix2 i k)))) := by
  pointwise [refOut, meanEps]

/-- The reference's run, at its one device. -/
theorem ref_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v12)
          = refOut (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) :=
  Cert.ReferenceIdeal.Value.run m ρ

end Cert.RmsProof

end
-- ==== Proof.Equation.lean ====
/-
The equation between the two programs: where each device's arrays are its blocks of the whole arrays, its result is its
block of the reference's result.
-/
module

public import proofs.«01_k».proof.Proof.Value
public import proofs.«01_k».proof.Proof.RefValue
public import Idealize.ShloMosaic.Lib.Layout

@[expose] public section

set_option maxRecDepth 16384

noncomputable section

namespace Cert.RmsProof

open Idealize.ShloMosaic
open Idealize.ShloMosaic.TcCoe

/-- Column `l` of block `c`, as a column of the whole array. -/
def col (c : Fin 4) (l : Fin 512) : Fin 2048 := ⟨c.val * 512 + l.val, by omega⟩

/-- A block of columns at an element. -/
theorem block_cols (X : (⟨2, ![768, 2048]⟩ : Shape).Idx → EReal) (c : Fin 4) (i : Fin 768) (l : Fin 512) :
    Layout.block ⟨2, ![768, 512]⟩ ⟨2, ![768, 2048]⟩ 1 4 c X (by decide) (ix2 i l) = X (ix2 i (col c l)) := by
  rw [Layout.block_apply]
  exact congrArg X (funext fun a => by
    match a with
    | ⟨0, _⟩ => exact Fin.ext rfl
    | ⟨1, _⟩ => exact Fin.ext rfl)

/-- A block of a vector at an element. -/
theorem block_vec (G : (⟨1, ![2048]⟩ : Shape).Idx → EReal) (c : Fin 4) (l : Fin 512) :
    Layout.block ⟨1, ![512]⟩ ⟨1, ![2048]⟩ 0 4 c G (by decide) (ix1 l) = G (ix1 (col c l)) := by
  rw [Layout.block_apply]
  exact congrArg G (funext fun a => by
    match a with
    | ⟨0, _⟩ => exact Fin.ext rfl)

/-- The devices' sums of squares of a row add up to the sum over the whole row. -/
theorem sum_sqSum (X : (⟨2, ![768, 2048]⟩ : Shape).Idx → EReal) (i : Fin 768) :
    ∑ s : Fin 4, sqSum (Layout.block ⟨2, ![768, 512]⟩ ⟨2, ![768, 2048]⟩ 1 4 s X (by decide)) i
      = ∑ k : Fin 2048, X (ix2 i k) * X (ix2 i k) := by
  rw [sum_blocks]
  refine Finset.sum_congr rfl fun s _ => Finset.sum_congr rfl fun l _ => ?_
  exact congrArg₂ (· * ·) (block_cols X s i l) (block_cols X s i l)

open Cert.KernelIdeal in
/-- Device `c`'s result is block `c` of the reference's. -/
theorem outAt_eq_block (m : (ℓ : Loc nD τ sig) → Buf (Elt Ideal) ℓ)
    (X : FVec Ideal ⟨2, ![768, 2048]⟩ .f32) (G : FVec Ideal ⟨1, ![2048]⟩ .f32)
    (hx : ∀ c : Dev nD, xin m c = Layout.block ⟨2, ![768, 512]⟩ ⟨2, ![768, 2048]⟩ 1 4 c X)
    (hg : ∀ c : Dev nD, gin m c = Layout.block ⟨1, ![512]⟩ ⟨1, ![2048]⟩ 0 4 c G) (c : Dev nD) :
    outAt m c = Layout.block ⟨2, ![768, 512]⟩ ⟨2, ![768, 2048]⟩ 1 4 c (refOut X G) := by
  funext j
  obtain ⟨i, l, rfl⟩ : ∃ (i : Fin 768) (l : Fin 512), j = ix2 i l := ⟨j 0, j 1, eq_ix2 j⟩
  refine (outAt_apply m c i l).trans (Eq.trans ?_ (block_cols (refOut X G) c i l).symm)
  have hsum : ∑ s : Fin 4, sqSum (xin m s) i = ∑ k : Fin 2048, (X (ix2 i k) : EReal) * X (ix2 i k) :=
    (Finset.sum_congr rfl fun s _ => congrArg (sqSum · i) (hx s)).trans (sum_sqSum X i)
  rw [refOut_apply, div_sqrt_eq _ (meanEps_pos (Finset.sum_nonneg fun k _ => sq_nonneg_ereal _)), hsum, hx c, hg c]
  exact congrArg (· * _) (congrArg₂ (· * ·) (block_vec G c l) (block_cols X c i l))

end Cert.RmsProof

end
-- ==== Proof.SameText.lean ====
/-
The two readings of the kernel have the same text, so their tables of bodies are the same; said once, label by label.
-/
module

public import proofs.«01_k».proof.Proof.Gen.Kernel
public import proofs.«01_k».proof.Proof.Gen.KernelIdeal

@[expose] public section

noncomputable section

namespace Cert.RmsProof

open Idealize.ShloMosaic

variable {F : FTy → Type} [FloatOps F]

/-- The kernel's own body, under its one label. -/
theorem bodies_eq : Cert.Kernel.defs₀ (F := F) = Cert.KernelIdeal.defs₀ := by
  unfold Cert.Kernel.defs₀ Cert.KernelIdeal.defs₀
  refine congrArg (Defs.onTc (nD := Cert.Kernel.nD) (τ := Cert.Kernel.τ) (sig := Cert.Kernel.sig) (Λ := Cert.Kernel.Λ₀)) ?_
  funext l x
  match l, x with
  | 0, (_, _) => rfl

/-- The whole table: the body with its launch. -/
theorem defs_eq : Cert.Kernel.defs (F := F) = Cert.KernelIdeal.defs := by
  unfold Cert.Kernel.defs Cert.KernelIdeal.defs
  rw [bodies_eq]
  rfl

end Cert.RmsProof

end
-- ==== Proof.lean ====
/-
The proof of the certificate's claim: the kernel's one run gives the frame of both readings of it, the reference's run
gives its frame, and the equation between the results gives the value claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import proofs.«01_k».proof.Proof.SameText
public import Idealize.ShloMosaic.Adequacy
public import Idealize.ShloMosaic.Init

@[expose] public section

noncomputable section

namespace Cert.Proof

open Idealize.ShloMosaic Idealize.SL.Sem Cert.RmsProof

/-- The kernel runs, keeps its arguments and leaves every counter at zero, over any float values. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
          r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => (h.1 c).2, h.2⟩) (run_arrays m ρ)

/-- That, on extended reals. -/
theorem frame_kernelIdeal : Cert.quiescent_KernelIdeal := fun m ρ _ => frame_any (F := Ideal) m ρ

/-- The program read on machine words has the same text, so its frame is the same statement at those floats. -/
theorem frame_kernel : Cert.quiescent_Kernel := by
  intro m ρ _
  rw [defs_eq]
  exact frame_any (F := Bits) m ρ

/-- The reference runs and keeps its arguments; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (ref_run m ρ)

/-- No operation was rewritten between the two readings. -/
theorem preserves : Cert.preserves_Kernel_KernelIdeal := trivial

/-- Every device's result is its block of the reference's result. -/
theorem algebraic : Cert.algebraic_KernelIdeal_ReferenceIdeal := by
  intro m ρ m' ρ' _ hagree
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨(h.1 c).1.trans ?_, (h.1 c).2⟩)
      (run_arrays (F := Ideal) m ρ)
    exact outAt_eq_block m _ _ (fun d => (hagree d).1) (fun d => (gin_eq m d).trans (hagree d).2) c
  · exact (θ_run Cert.ReferenceIdeal.defs _ _).mono (fun _ h => h 0) (ref_run m' ρ')

theorem claim : Cert.Claim := ⟨Cert.Kernel.Gen.facts, Cert.KernelIdeal.Gen.facts, Cert.ReferenceIdeal.Gen.facts,
  frame_kernel, frame_kernelIdeal, frame_reference, preserves, algebraic⟩

end Cert.Proof

end
